-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Register (m : (ℓ : Loc Cert.Register.nD Cert.Register.τ Cert.Register.sig) → Buf (Elt Bits) ℓ) : Prop :=
  True

def Pre_RegisterIdeal (m : (ℓ : Loc Cert.RegisterIdeal.nD Cert.RegisterIdeal.τ Cert.RegisterIdeal.sig) → Buf (Elt Ideal) ℓ) : Prop :=
  True

def Pre_PlaceIdeal (m : (ℓ : Loc Cert.PlaceIdeal.nD Cert.PlaceIdeal.τ Cert.PlaceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Register [hRegister : Cert.Register.Facts] : Prop :=
  ∀ (m : (ℓ : Loc Cert.Register.nD Cert.Register.τ Cert.Register.sig) → Buf (Elt Bits) ℓ) (g : Dev Cert.Register.nD → PrngReg), Pre_Register m →
    θ_run (Cert.Register.defs (F := Bits)) (onTc (τ := Cert.Register.τ) (Cert.Register.main (F := Bits))) ⟨m, fun _ => 0, g⟩ (fun r => (∀ c : Dev Cert.Register.nD,
      r.2.mem ((c.tc : Thread Cert.Register.nD Cert.Register.τ).loc Cert.Register.main_arg0) = m ((c.tc : Thread Cert.Register.nD Cert.Register.τ).loc Cert.Register.main_arg0)
      ∧ r.2.mem ((c.tc : Thread Cert.Register.nD Cert.Register.τ).loc Cert.Register.main_arg1) = m ((c.tc : Thread Cert.Register.nD Cert.Register.τ).loc Cert.Register.main_arg1)
      ∧ r.2.mem ((c.tc : Thread Cert.Register.nD Cert.Register.τ).loc Cert.Register.main_arg2) = m ((c.tc : Thread Cert.Register.nD Cert.Register.τ).loc Cert.Register.main_arg2)
      ∧ r.2.mem ((c.tc : Thread Cert.Register.nD Cert.Register.τ).loc Cert.Register.main_arg3) = m ((c.tc : Thread Cert.Register.nD Cert.Register.τ).loc Cert.Register.main_arg3))
      ∧ r.2.sem = fun _ => 0)

def quiescent_RegisterIdeal [hRegisterIdeal : Cert.RegisterIdeal.Facts] : Prop :=
  ∀ (m : (ℓ : Loc Cert.RegisterIdeal.nD Cert.RegisterIdeal.τ Cert.RegisterIdeal.sig) → Buf (Elt Ideal) ℓ) (g : Dev Cert.RegisterIdeal.nD → PrngReg), Pre_RegisterIdeal m →
    θ_run (Cert.RegisterIdeal.defs (F := Ideal)) (onTc (τ := Cert.RegisterIdeal.τ) (Cert.RegisterIdeal.main (F := Ideal))) ⟨m, fun _ => 0, g⟩ (fun r => (∀ c : Dev Cert.RegisterIdeal.nD,
      r.2.mem ((c.tc : Thread Cert.RegisterIdeal.nD Cert.RegisterIdeal.τ).loc Cert.RegisterIdeal.main_arg0) = m ((c.tc : Thread Cert.RegisterIdeal.nD Cert.RegisterIdeal.τ).loc Cert.RegisterIdeal.main_arg0)
      ∧ r.2.mem ((c.tc : Thread Cert.RegisterIdeal.nD Cert.RegisterIdeal.τ).loc Cert.RegisterIdeal.main_arg1) = m ((c.tc : Thread Cert.RegisterIdeal.nD Cert.RegisterIdeal.τ).loc Cert.RegisterIdeal.main_arg1)
      ∧ r.2.mem ((c.tc : Thread Cert.RegisterIdeal.nD Cert.RegisterIdeal.τ).loc Cert.RegisterIdeal.main_arg2) = m ((c.tc : Thread Cert.RegisterIdeal.nD Cert.RegisterIdeal.τ).loc Cert.RegisterIdeal.main_arg2)
      ∧ r.2.mem ((c.tc : Thread Cert.RegisterIdeal.nD Cert.RegisterIdeal.τ).loc Cert.RegisterIdeal.main_arg3) = m ((c.tc : Thread Cert.RegisterIdeal.nD Cert.RegisterIdeal.τ).loc Cert.RegisterIdeal.main_arg3))
      ∧ r.2.sem = fun _ => 0)

def quiescent_PlaceIdeal [hPlaceIdeal : Cert.PlaceIdeal.Facts] : Prop :=
  ∀ (m : (ℓ : Loc Cert.PlaceIdeal.nD Cert.PlaceIdeal.τ Cert.PlaceIdeal.sig) → Buf (Elt Ideal) ℓ) (g : Dev Cert.PlaceIdeal.nD → PrngReg), Pre_PlaceIdeal m →
    θ_run (Cert.PlaceIdeal.defs (F := Ideal)) (onTc (τ := Cert.PlaceIdeal.τ) (Cert.PlaceIdeal.main (F := Ideal))) ⟨m, fun _ => 0, g⟩ (fun r => (∀ c : Dev Cert.PlaceIdeal.nD,
      r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
      ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1)
      ∧ r.2.mem ((c.tc : Thread Cert.PlaceIdeal.nD Cert.PlaceIdeal.τ).loc Cert.PlaceIdeal.main_arg2) = m ((c.tc : Thread Cert.PlaceIdeal.nD Cert.PlaceIdeal.τ).loc Cert.PlaceIdeal.main_arg2)
      ∧ r.2.mem ((c.tc : Thread Cert.PlaceIdeal.nD Cert.PlaceIdeal.τ).loc Cert.PlaceIdeal.main_arg3) = m ((c.tc : Thread Cert.PlaceIdeal.nD Cert.PlaceIdeal.τ).loc Cert.PlaceIdeal.main_arg3))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Register_RegisterIdeal : Prop :=
  True

def algebraic_RegisterIdeal_PlaceIdeal [hRegisterIdeal : Cert.RegisterIdeal.Facts] [hPlaceIdeal : Cert.PlaceIdeal.Facts] : Prop :=
  ∀ (m : (ℓ : Loc Cert.RegisterIdeal.nD Cert.RegisterIdeal.τ Cert.RegisterIdeal.sig) → Buf (Elt Ideal) ℓ) (g : Dev Cert.RegisterIdeal.nD → PrngReg)
    (m' : (ℓ : Loc Cert.PlaceIdeal.nD Cert.PlaceIdeal.τ Cert.PlaceIdeal.sig) → Buf (Elt Ideal) ℓ) (g' : Dev Cert.PlaceIdeal.nD → PrngReg), Pre_RegisterIdeal m →
    (∀ c : Dev Cert.RegisterIdeal.nD,
      m' ((c.tc : Thread Cert.PlaceIdeal.nD Cert.PlaceIdeal.τ).loc Cert.PlaceIdeal.main_arg0) = m ((c.tc : Thread Cert.RegisterIdeal.nD Cert.RegisterIdeal.τ).loc Cert.RegisterIdeal.main_arg0)
      ∧ m' ((c.tc : Thread Cert.PlaceIdeal.nD Cert.PlaceIdeal.τ).loc Cert.PlaceIdeal.main_arg1) = m ((c.tc : Thread Cert.RegisterIdeal.nD Cert.RegisterIdeal.τ).loc Cert.RegisterIdeal.main_arg1)
      ∧ m' ((c.tc : Thread Cert.PlaceIdeal.nD Cert.PlaceIdeal.τ).loc Cert.PlaceIdeal.main_arg2) = m ((c.tc : Thread Cert.RegisterIdeal.nD Cert.RegisterIdeal.τ).loc Cert.RegisterIdeal.main_arg2)
      ∧ m' ((c.tc : Thread Cert.PlaceIdeal.nD Cert.PlaceIdeal.τ).loc Cert.PlaceIdeal.main_arg3) = m ((c.tc : Thread Cert.RegisterIdeal.nD Cert.RegisterIdeal.τ).loc Cert.RegisterIdeal.main_arg3)) →
    ∃ (v0 : (c : Dev Cert.RegisterIdeal.nD) → Buf (Elt Ideal) ((c.tc : Thread Cert.RegisterIdeal.nD Cert.RegisterIdeal.τ).loc Cert.RegisterIdeal.main_v3_0)) (v1 : (c : Dev Cert.RegisterIdeal.nD) → Buf (Elt Ideal) ((c.tc : Thread Cert.RegisterIdeal.nD Cert.RegisterIdeal.τ).loc Cert.RegisterIdeal.main_v3_1)) (v2 : (c : Dev Cert.RegisterIdeal.nD) → Buf (Elt Ideal) ((c.tc : Thread Cert.RegisterIdeal.nD Cert.RegisterIdeal.τ).loc Cert.RegisterIdeal.main_v3_2)),
      θ_run (Cert.RegisterIdeal.defs (F := Ideal)) (onTc (τ := Cert.RegisterIdeal.τ) (Cert.RegisterIdeal.main (F := Ideal))) ⟨m, fun _ => 0, g⟩ (fun r => ∀ c : Dev Cert.RegisterIdeal.nD,
          r.2.mem ((c.tc : Thread Cert.RegisterIdeal.nD Cert.RegisterIdeal.τ).loc Cert.RegisterIdeal.main_v3_0) = v0 c
          ∧ r.2.mem ((c.tc : Thread Cert.RegisterIdeal.nD Cert.RegisterIdeal.τ).loc Cert.RegisterIdeal.main_v3_1) = v1 c
          ∧ r.2.mem ((c.tc : Thread Cert.RegisterIdeal.nD Cert.RegisterIdeal.τ).loc Cert.RegisterIdeal.main_v3_2) = v2 c
          ∧ r.2.mem ((c.tc : Thread Cert.RegisterIdeal.nD Cert.RegisterIdeal.τ).loc Cert.RegisterIdeal.main_arg0) = m ((c.tc : Thread Cert.RegisterIdeal.nD Cert.RegisterIdeal.τ).loc Cert.RegisterIdeal.main_arg0)
          ∧ r.2.mem ((c.tc : Thread Cert.RegisterIdeal.nD Cert.RegisterIdeal.τ).loc Cert.RegisterIdeal.main_arg1) = m ((c.tc : Thread Cert.RegisterIdeal.nD Cert.RegisterIdeal.τ).loc Cert.RegisterIdeal.main_arg1)
          ∧ r.2.mem ((c.tc : Thread Cert.RegisterIdeal.nD Cert.RegisterIdeal.τ).loc Cert.RegisterIdeal.main_arg2) = m ((c.tc : Thread Cert.RegisterIdeal.nD Cert.RegisterIdeal.τ).loc Cert.RegisterIdeal.main_arg2)
          ∧ r.2.mem ((c.tc : Thread Cert.RegisterIdeal.nD Cert.RegisterIdeal.τ).loc Cert.RegisterIdeal.main_arg3) = m ((c.tc : Thread Cert.RegisterIdeal.nD Cert.RegisterIdeal.τ).loc Cert.RegisterIdeal.main_arg3))
      ∧ θ_run (Cert.PlaceIdeal.defs (F := Ideal)) (onTc (τ := Cert.PlaceIdeal.τ) (Cert.PlaceIdeal.main (F := Ideal))) ⟨m', fun _ => 0, g'⟩ (fun r => ∀ c : Dev Cert.PlaceIdeal.nD,
          r.2.mem ((c.tc : Thread Cert.PlaceIdeal.nD Cert.PlaceIdeal.τ).loc Cert.PlaceIdeal.main_v15) = v0 c
          ∧ r.2.mem ((c.tc : Thread Cert.PlaceIdeal.nD Cert.PlaceIdeal.τ).loc Cert.PlaceIdeal.main_v16) = v1 c
          ∧ r.2.mem ((c.tc : Thread Cert.PlaceIdeal.nD Cert.PlaceIdeal.τ).loc Cert.PlaceIdeal.main_v17) = v2 c
          ∧ r.2.mem ((c.tc : Thread Cert.PlaceIdeal.nD Cert.PlaceIdeal.τ).loc Cert.PlaceIdeal.main_arg0) = m' ((c.tc : Thread Cert.PlaceIdeal.nD Cert.PlaceIdeal.τ).loc Cert.PlaceIdeal.main_arg0)
          ∧ r.2.mem ((c.tc : Thread Cert.PlaceIdeal.nD Cert.PlaceIdeal.τ).loc Cert.PlaceIdeal.main_arg1) = m' ((c.tc : Thread Cert.PlaceIdeal.nD Cert.PlaceIdeal.τ).loc Cert.PlaceIdeal.main_arg1)
          ∧ r.2.mem ((c.tc : Thread Cert.PlaceIdeal.nD Cert.PlaceIdeal.τ).loc Cert.PlaceIdeal.main_arg2) = m' ((c.tc : Thread Cert.PlaceIdeal.nD Cert.PlaceIdeal.τ).loc Cert.PlaceIdeal.main_arg2)
          ∧ r.2.mem ((c.tc : Thread Cert.PlaceIdeal.nD Cert.PlaceIdeal.τ).loc Cert.PlaceIdeal.main_arg3) = m' ((c.tc : Thread Cert.PlaceIdeal.nD Cert.PlaceIdeal.τ).loc Cert.PlaceIdeal.main_arg3))

def Claim : Prop :=
  ∃ (hKernel : Cert.Kernel.Facts) (hKernelIdeal : Cert.KernelIdeal.Facts) (hReferenceIdeal : Cert.ReferenceIdeal.Facts) (hRegister : Cert.Register.Facts) (hRegisterIdeal : Cert.RegisterIdeal.Facts) (hPlaceIdeal : Cert.PlaceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ quiescent_Register (hRegister := hRegister)
    ∧ quiescent_RegisterIdeal (hRegisterIdeal := hRegisterIdeal)
    ∧ quiescent_PlaceIdeal (hPlaceIdeal := hPlaceIdeal)
    ∧ preserves_Kernel_KernelIdeal
    ∧ algebraic_KernelIdeal_ReferenceIdeal_pre_finite_points (hKernelIdeal := hKernelIdeal) (hReferenceIdeal := hReferenceIdeal) (hPre_finite_points := hPre_finite_points)
    ∧ preserves_Register_RegisterIdeal
    ∧ algebraic_RegisterIdeal_PlaceIdeal (hRegisterIdeal := hRegisterIdeal) (hPlaceIdeal := hPlaceIdeal)
-- ==== Pre_finite_points.lean ====
abbrev S16x3x1024 : Shape := ⟨3, ![16, 3, 1024]⟩
abbrev S6x32 : Shape := ⟨2, ![6, 32]⟩
abbrev S32x64 : Shape := ⟨2, ![32, 64]⟩
abbrev S64x128 : Shape := ⟨2, ![64, 128]⟩
abbrev S128x48 : Shape := ⟨2, ![128, 48]⟩
abbrev S48 : Shape := ⟨1, ![48]⟩
abbrev S_ : Shape := ⟨0, ![]⟩

class Facts : Prop where
  bcast_S_S16x3x1024 : S_.BroadcastsInDim S16x3x1024 (![] : Fin 0 → Fin S16x3x1024.rank)

variable [Facts]

def fn {F : FTy → Type} [FloatOps F] (main_arg0 : FVec F S16x3x1024 .f32) (main_arg1 : FVec F S6x32 .f32) (main_arg2 : FVec F S32x64 .f32) (main_arg3 : FVec F S64x128 .f32) (main_arg4 : FVec F S128x48 .f32) (main_arg5 : FVec F S48 .f32) : IVec S16x3x1024 1 :=
  let main_v0 : FVec F S16x3x1024 .f32 := Host.absf main_arg0
  let main_cst : FVec F S_ .f32 := constant S_ .f32 0x7F800000#32
  let main_v1 : FVec F S16x3x1024 .f32 := broadcastInDim S16x3x1024 ![] bcast_S_S16x3x1024 main_cst
  let main_v2 : IVec S16x3x1024 1 := cmpf .olt main_v0 main_v1
  main_v2
-- ==== Kernel.lean ====
abbrev S16x3x1024 : Shape := ⟨3, ![16, 3, 1024]⟩
abbrev S6x32 : Shape := ⟨2, ![6, 32]⟩
abbrev S32x64 : Shape := ⟨2, ![32, 64]⟩
abbrev S64x128 : Shape := ⟨2, ![64, 128]⟩
abbrev S128x48 : Shape := ⟨2, ![128, 48]⟩
abbrev S48 : Shape := ⟨1, ![48]⟩
abbrev S16x1024x3 : Shape := ⟨3, ![16, 1024, 3]⟩
abbrev S1x48 : Shape := ⟨2, ![1, 48]⟩
abbrev S16x1x48 : Shape := ⟨3, ![16, 1, 48]⟩
abbrev S1x3x1024 : Shape := ⟨3, ![1, 3, 1024]⟩
abbrev S1x1024x3 : Shape := ⟨3, ![1, 1024, 3]⟩
abbrev S1x1x48 : Shape := ⟨3, ![1, 1, 48]⟩
abbrev S3x1024 : Shape := ⟨2, ![3, 1024]⟩
abbrev S1024x3 : Shape := ⟨2, ![1024, 3]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1024x6 : Shape := ⟨2, ![1024, 6]⟩
abbrev S1024x32 : Shape := ⟨2, ![1024, 32]⟩
abbrev S1024x64 : Shape := ⟨2, ![1024, 64]⟩
abbrev S1024x128 : Shape := ⟨2, ![1024, 128]⟩
abbrev S128 : Shape := ⟨1, ![128]⟩
abbrev S1x128 : Shape := ⟨2, ![1, 128]⟩

abbrev nBuf : Space → Nat
  | .hbm => 9
  | .vmem => 11
  | .smem => 0
  | _ => 0

abbrev bufTy : (tb : Table) → Fin (tcTables nBuf tb) → BufTy
  | .hbm, ⟨0, _⟩ => ⟨S16x3x1024, .f32⟩
  | .hbm, ⟨1, _⟩ => ⟨S6x32, .f32⟩
  | .hbm, ⟨2, _⟩ => ⟨S32x64, .f32⟩
  | .hbm, ⟨3, _⟩ => ⟨S64x128, .f32⟩
  | .hbm, ⟨4, _⟩ => ⟨S128x48, .f32⟩
  | .hbm, ⟨5, _⟩ => ⟨S48, .f32⟩
  | .hbm, ⟨6, _⟩ => ⟨S16x1024x3, .f32⟩
  | .hbm, ⟨7, _⟩ => ⟨S1x48, .f32⟩
  | .hbm, ⟨8, _⟩ => ⟨S16x1x48, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x3, .f32⟩
  | .local _ .vmem, ⟨3, _⟩ => ⟨S1x1024x3, .f32⟩
  | .local _ .vmem, ⟨4, _⟩ => ⟨S6x32, .f32⟩
  | .local _ .vmem, ⟨5, _⟩ => ⟨S32x64, .f32⟩
  | .local _ .vmem, ⟨6, _⟩ => ⟨S64x128, .f32⟩
  | .local _ .vmem, ⟨7, _⟩ => ⟨S128x48, .f32⟩
  | .local _ .vmem, ⟨8, _⟩ => ⟨S1x48, .f32⟩
  | .local _ .vmem, ⟨9, _⟩ => ⟨S1x1x48, .f32⟩
  | .local _ .vmem, ⟨10, _⟩ => ⟨S1x1x48, .f32⟩
  | _, _ => ⟨S16x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "big" => some ⊤
  | _ => none
-- ==== ReferenceIdeal.lean ====
abbrev S16x3x1024 : Shape := ⟨3, ![16, 3, 1024]⟩
abbrev S6x32 : Shape := ⟨2, ![6, 32]⟩
abbrev S32x64 : Shape := ⟨2, ![32, 64]⟩
abbrev S64x128 : Shape := ⟨2, ![64, 128]⟩
abbrev S128x48 : Shape := ⟨2, ![128, 48]⟩
abbrev S48 : Shape := ⟨1, ![48]⟩
abbrev S16x1024x3 : Shape := ⟨3, ![16, 1024, 3]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S16x1024x16 : Shape := ⟨3, ![16, 1024, 16]⟩
abbrev S16x1024x16x1 : Shape := ⟨4, ![16, 1024, 16, 1]⟩
abbrev S16x1024x16x3 : Shape := ⟨4, ![16, 1024, 16, 3]⟩
abbrev S16x1024x1x3 : Shape := ⟨4, ![16, 1024, 1, 3]⟩
abbrev S16x1024x6 : Shape := ⟨3, ![16, 1024, 6]⟩
abbrev S16x1024x32 : Shape := ⟨3, ![16, 1024, 32]⟩
abbrev S16x1024x64 : Shape := ⟨3, ![16, 1024, 64]⟩
abbrev S16x1024x128 : Shape := ⟨3, ![16, 1024, 128]⟩
abbrev S16x128 : Shape := ⟨2, ![16, 128]⟩
abbrev S16x48 : Shape := ⟨2, ![16, 48]⟩
abbrev S1x48 : Shape := ⟨2, ![1, 48]⟩
abbrev S16x1x48 : Shape := ⟨3, ![16, 1, 48]⟩

abbrev nBuf : Space → Nat
  | .hbm => 57
  | .vmem => 0
  | .smem => 0
  | _ => 0

abbrev bufTy : (tb : Table) → Fin (tcTables nBuf tb) → BufTy
  | .hbm, ⟨0, _⟩ => ⟨S16x3x1024, .f32⟩
  | .hbm, ⟨1, _⟩ => ⟨S6x32, .f32⟩
  | .hbm, ⟨2, _⟩ => ⟨S32x64, .f32⟩
  | .hbm, ⟨3, _⟩ => ⟨S64x128, .f32⟩
  | .hbm, ⟨4, _⟩ => ⟨S128x48, .f32⟩
  | .hbm, ⟨5, _⟩ => ⟨S48, .f32⟩
  | .hbm, ⟨6, _⟩ => ⟨S16x1024x3, .f32⟩
  | .hbm, ⟨7, _⟩ => ⟨S16x1024x3, .f32⟩
  | .hbm, ⟨8, _⟩ => ⟨S_, .f32⟩
  | .hbm, ⟨9, _⟩ => ⟨S16x1024, .f32⟩
  | .hbm, ⟨10, _⟩ => ⟨S16x1024x1, .f32⟩
  | .hbm, ⟨11, _⟩ => ⟨S16x1x1024, .f32⟩
  | .hbm, ⟨12, _⟩ => ⟨S16x1024x1024, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S16x1024x16, .f32⟩
  | .hbm, ⟨22, _⟩ => ⟨S16x1024x16, .i32⟩
  | .hbm, ⟨23, _⟩ => ⟨S_, .i32⟩
  | .hbm, ⟨24, _⟩ => ⟨S16x1024x16, .i32⟩
  | .hbm, ⟨25, _⟩ => ⟨S16x1024x16, .i1⟩
  | .hbm, ⟨26, _⟩ => ⟨S_, .i32⟩
  | .hbm, ⟨27, _⟩ => ⟨S16x1024x16, .i32⟩
  | .hbm, ⟨28, _⟩ => ⟨S16x1024x16, .i32⟩
  | .hbm, ⟨29, _⟩ => ⟨S16x1024x16, .i32⟩
  | .hbm, ⟨30, _⟩ => ⟨S16x1024x16x1, .i32⟩
  | .hbm, ⟨31, _⟩ => ⟨S16x1024x16x3, .f32⟩
  | .hbm, ⟨32, _⟩ => ⟨S16x1024x1x3, .f32⟩
  | .hbm, ⟨33, _⟩ => ⟨S16x1024x16x3, .f32⟩
  | .hbm, ⟨34, _⟩ => ⟨S16x1024x16x3, .f32⟩
  | .hbm, ⟨35, _⟩ => ⟨S_, .f32⟩
  | .hbm, ⟨36, _⟩ => ⟨S16x1024x3, .f32⟩
  | .hbm, ⟨37, _⟩ => ⟨S16x1024x6, .f32⟩
  | .hbm, ⟨38, _⟩ => ⟨S16x1024x32, .f32⟩
  | .hbm, ⟨39, _⟩ => ⟨S_, .f32⟩
  | .hbm, ⟨40, _⟩ => ⟨S16x1024x32, .f32⟩
  | .hbm, ⟨41, _⟩ => ⟨S16x1024x32, .f32⟩
  | .hbm, ⟨42, _⟩ => ⟨S16x1024x64, .f32⟩
  | .hbm, ⟨43, _⟩ => ⟨S_, .f32⟩
  | .hbm, ⟨44, _⟩ => ⟨S16x1024x64, .f32⟩
  | .hbm, ⟨45, _⟩ => ⟨S16x1024x64, .f32⟩
  | .hbm, ⟨46, _⟩ => ⟨S16x1024x128, .f32⟩
  | .hbm, ⟨47, _⟩ => ⟨S_, .f32⟩
  | .hbm, ⟨48, _⟩ => ⟨S16x1024x128, .f32⟩
  | .hbm, ⟨49, _⟩ => ⟨S16x1024x128, .f32⟩
  | .hbm, ⟨50, _⟩ => ⟨S_, .f32⟩
  | .hbm, ⟨51, _⟩ => ⟨S16x128, .f32⟩
  | .hbm, ⟨52, _⟩ => ⟨S16x48, .f32⟩
  | .hbm, ⟨53, _⟩ => ⟨S1x48, .f32⟩
  | .hbm, ⟨54, _⟩ => ⟨S16x48, .f32⟩
  | .hbm, ⟨55, _⟩ => ⟨S16x48, .f32⟩
  | .hbm, ⟨56, _⟩ => ⟨S16x1x48, .f32⟩
  | _, _ => ⟨S16x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Register.lean ====
abbrev S16x48 : Shape := ⟨2, ![16, 48]⟩
abbrev S1x3x16 : Shape := ⟨3, ![1, 3, 16]⟩
abbrev S1x3x1024 : Shape := ⟨3, ![1, 3, 1024]⟩
abbrev S16x3x3 : Shape := ⟨3, ![16, 3, 3]⟩
abbrev S3x16 : Shape := ⟨2, ![3, 16]⟩
abbrev S3x1024 : Shape := ⟨2, ![3, 1024]⟩
abbrev S16x9 : Shape := ⟨2, ![16, 9]⟩
abbrev S16x3x1024 : Shape := ⟨3, ![16, 3, 1024]⟩
abbrev S16x3 : Shape := ⟨2, ![16, 3]⟩
abbrev S1x16 : Shape := ⟨2, ![1, 16]⟩
abbrev S1 : Shape := ⟨1, ![1]⟩
abbrev S1x1 : Shape := ⟨2, ![1, 1]⟩
abbrev S16x16 : Shape := ⟨2, ![16, 16]⟩
abbrev S16 : Shape := ⟨1, ![16]⟩
abbrev S16x1 : Shape := ⟨2, ![16, 1]⟩
abbrev S1x1024 : Shape := ⟨2, ![1, 1024]⟩
abbrev S16x1024 : Shape := ⟨2, ![16, 1024]⟩
abbrev S16x1x1024 : Shape := ⟨3, ![16, 1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x48, .f32⟩
  | .hbm, ⟨1, _⟩ => ⟨S1x3x16, .f32⟩
  | .hbm, ⟨2, _⟩ => ⟨S1x3x1024, .f32⟩
  | .hbm, ⟨3, _⟩ => ⟨S16x3x3, .f32⟩
  | .hbm, ⟨4, _⟩ => ⟨S3x16, .f32⟩
  | .hbm, ⟨5, _⟩ => ⟨S3x1024, .f32⟩
  | .hbm, ⟨6, _⟩ => ⟨S16x9, .f32⟩
  | .hbm, ⟨7, _⟩ => ⟨S16x3x1024, .f32⟩
  | .hbm, ⟨8, _⟩ => ⟨S16x9, .f32⟩
  | .hbm, ⟨9, _⟩ => ⟨S16x3, .f32⟩
  | .local _ .vmem, ⟨0, _⟩ => ⟨S16x48, .f32⟩
  | .local _ .vmem, ⟨1, _⟩ => ⟨S3x16, .f32⟩
  | .local _ .vmem, ⟨2, _⟩ => ⟨S3x1024, .f32⟩
  | .local _ .vmem, ⟨3, _⟩ => ⟨S16x9, .f32⟩
  | .local _ .vmem, ⟨4, _⟩ => ⟨S16x3x1024, .f32⟩
  | .local _ .vmem, ⟨5, _⟩ => ⟨S16x9, .f32⟩
  | .local _ .vmem, ⟨6, _⟩ => ⟨S16x3, .f32⟩
  | _, _ => ⟨S16x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PlaceIdeal.lean ====
abbrev S16x48 : Shape := ⟨2, ![16, 48]⟩
abbrev S1x3x16 : Shape := ⟨3, ![1, 3, 16]⟩
abbrev S1x3x1024 : Shape := ⟨3, ![1, 3, 1024]⟩
abbrev S16x3x3 : Shape := ⟨3, ![16, 3, 3]⟩
abbrev S16x3x16 : Shape := ⟨3, ![16, 3, 16]⟩
abbrev S3x16 : Shape := ⟨2, ![3, 16]⟩
abbrev S_ : Shape := ⟨0, ![]⟩
abbrev S3 : Shape := ⟨1, ![3]⟩
abbrev S3x1 : Shape := ⟨2, ![3, 1]⟩
abbrev S16x3 : Shape := ⟨2, ![16, 3]⟩
abbrev S16x3x1 : Shape := ⟨3, ![16, 3, 1]⟩
abbrev S3x1024 : Shape := ⟨2, ![3, 1024]⟩
abbrev S16x3x1024 : Shape := ⟨3, ![16, 3, 1024]⟩
abbrev S16x9 : Shape := ⟨2, ![16, 9]⟩

abbrev nBuf : Space → Nat
  | .hbm => 26
  | .vmem => 0
  | .smem => 0
  | _ => 0

abbrev bufTy : (tb : Table) → Fin (tcTables nBuf tb) → BufTy
  | .hbm, ⟨0, _⟩ => ⟨S16x48, .f32⟩
  | .hbm, ⟨1, _⟩ => ⟨S1x3x16, .f32⟩
  | .hbm, ⟨2, _⟩ => ⟨S1x3x1024, .f32⟩
  | .hbm, ⟨3, _⟩ => ⟨S16x3x3, .f32⟩
  | .hbm, ⟨4, _⟩ => ⟨S16x3x16, .f32⟩
  | .hbm, ⟨5, _⟩ => ⟨S3x16, .f32⟩
  | .hbm, ⟨6, _⟩ => ⟨S_, .f32⟩
  | .hbm, ⟨7, _⟩ => ⟨S3, .f32⟩
  | .hbm, ⟨8, _⟩ => ⟨S3x1, .f32⟩
  | .hbm, ⟨9, _⟩ => ⟨S_, .f32⟩
  | .hbm, ⟨10, _⟩ => ⟨S3x1, .f32⟩
  | .hbm, ⟨11, _⟩ => ⟨S3x1, .f32⟩
  | .hbm, ⟨12, _⟩ => ⟨S_, .f32⟩
  | .hbm, ⟨13, _⟩ => ⟨S16x3, .f32⟩
  | .hbm, ⟨14, _⟩ => ⟨S16x3x1, .f32⟩
  | .hbm, ⟨15, _⟩ => ⟨S_, .f32⟩
  | .hbm, ⟨16, _⟩ => ⟨S16x3x1, .f32⟩
  | .hbm, ⟨17, _⟩ => ⟨S16x3x1, .f32⟩
  | .hbm, ⟨18, _⟩ => ⟨S16x3x1, .f32⟩
  | .hbm, ⟨19, _⟩ => ⟨S16x3x1, .f32⟩
  | .hbm, ⟨20, _⟩ => ⟨S3x1024, .f32⟩
  | .hbm, ⟨21, _⟩ => ⟨S16x3x1024, .f32⟩
  | .hbm, ⟨22, _⟩ => ⟨S16x3x1024, .f32⟩
  | .hbm, ⟨23, _⟩ => ⟨S16x3x1024, .f32⟩
  | .hbm, ⟨24, _⟩ => ⟨S16x9, .f32⟩
  | .hbm, ⟨25, _⟩ => ⟨S16x3, .f32⟩
  | _, _ => ⟨S16x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Rounds.lean ====
/- The kernel's body read as sixteen equal ROUNDS. The printed payloads cut the unrolled loop at arbitrary places;
   here one round is named once (`pick`: which column each row takes; `next`: the distances with the taken columns
   struck out; `tally`: the taken columns added to the 0/1 matrix) and every payload is shown to be these functions
   applied some number of times. `out_eq` is the whole block result: the layers over the features of the 16-round tally. -/
module

public import proofs.«01_k».proof.Proof.Gen.KernelIdeal.Value

@[expose] public section

noncomputable section

namespace Cert.Proof.Rounds

open Cert.KernelIdeal Cert.KernelIdeal.Gen Idealize.ShloMosaic Idealize.SL.Sem Idealize.ShloMosaic.View

variable {F : FTy → Type} [FloatOps F] [Named F]

/-- A square matrix of the kernel: row = the point whose neighbours are sought, column = the candidate. -/
abbrev Sq (F : FTy → Type) := FVec F S1024x1024 .f32

/-- The column numbers, in every row. -/
def cols : IVec S1024x1024 32 := iota .tc S1024x1024 32 [1] iota_S1024x1024_d1_w32

/-- Where an entry is at most its row's minimum. -/
def atMin (w : Sq F) : IVec S1024x1024 1 :=
  cmpf .ole w (broadcastTo S1024x1024 (shapeCast S1024x1
    (multiReduction .minimumf [1] S1024 w 0x7F800000#32 reduces_S1024x1024_S1024 (.inl rfl) rfl)
    shapeCasts_S1024_S1024x1) broadcasts_S1024x1_S1024x1024)

/-- The column number where an entry is at most its row's minimum, 1024 elsewhere. -/
def candidates (w : Sq F) : IVec S1024x1024 32 := select (atMin w) cols (broadcast S1024x1024 1024#32)

/-- Each row's least column number, spread over the row. -/
def least (s : IVec S1024x1024 32) : IVec S1024x1024 32 :=
  broadcastTo S1024x1024 (shapeCast S1024x1
    (multiReductionI .minsi [1] S1024 s 2147483647#32 reduces_S1024x1024_S1024 rfl)
    shapeCasts_S1024_S1024x1) broadcasts_S1024x1_S1024x1024

/-- What a round takes: in each row the first column at the row's minimum. -/
def pick (w : Sq F) : IVec S1024x1024 1 := cmpi .eq cols (least (candidates w))

/-- The constant that strikes a column out, everywhere. -/
def struck : Sq F := broadcast S1024x1024 (Named.named κ "big" 0x7F61B1E6#32)

/-- The distances left after a round: the taken columns struck out. -/
def next (w : Sq F) : Sq F := select (pick w) struck w

/-- A round's take as a matrix of zeros and ones. -/
def taken (w : Sq F) : Sq F := sitofp .f32 (extui 32 (pick w) natLt_1_32)

/-- The 0/1 matrix after a round on `w`. -/
def tally (a w : Sq F) : Sq F := addf a (taken w)

/-- The distances left before round `n`. -/
def work (d : Sq F) : ℕ → Sq F
  | 0 => d
  | n + 1 => next (work d n)

/-- The 0/1 matrix before round `n`. -/
def acc (d : Sq F) : ℕ → Sq F
  | 0 => broadcast S1024x1024 (Scalar.ofBits .f32 0x00000000#32)
  | n + 1 => tally (acc d n) (work d n)

/-- A point's coordinates beside 16 times them less the sum of the taken points' coordinates. -/
def feat (x : FVec F S1024x3 .f32) (a : Sq F) : FVec F S1024x6 .f32 :=
  concatenate S1024x6 1 [⟨S1024x3, x⟩, ⟨S1024x3,
    subf (mulf (broadcast S1024x3 (Scalar.ofBits .f32 0x41800000#32)) x)
      (matmul dot_S1024x1024_S1024x3_S1024x3_1_0_0_1_n_n (some .fp32) a x (constant S1024x3 .f32 0x00000000#32))⟩]
    concatenates_S1024x3_S1024x3_S1024x6_d1

/-- The first two layers. -/
def hidden (f : FVec F S1024x6 .f32) (w1 : Vec F S6x32 .f32) (w2 : Vec F S32x64 .f32) : FVec F S1024x64 .f32 :=
  maximumf (matmul dot_S1024x32_S32x64_S1024x64_1_0_0_1_n_n none
    (maximumf (matmul dot_S1024x6_S6x32_S1024x32_1_0_0_1_n_n none f w1 (constant S1024x32 .f32 0x00000000#32))
      (broadcast S1024x32 (Scalar.ofBits .f32 0x00000000#32))) w2 (constant S1024x64 .f32 0x00000000#32))
    (broadcast S1024x64 (Scalar.ofBits .f32 0x00000000#32))

variable (w a : Sq F)

/-! ## The payloads -/

theorem pay8_eq : k0_pay8 cols (atMin w) 1024#32 = pick w := rfl
theorem pay9_eq : k0_pay9 cols w (atMin w) 1024#32 = next w := rfl
theorem pay10_eq : k0_pay10 cols w (atMin w) 1024#32 = pick (next w) := by
  unfold k0_pay10; rw [pay9_eq]; rfl
theorem pay11_eq : k0_pay11 cols w (atMin w) 1024#32 = next (next w) := by
  unfold k0_pay11; rw [pay9_eq, pay10_eq]; rfl
theorem pay12_eq : k0_pay12 cols w (atMin w) 1024#32 = pick (next (next w)) := by
  unfold k0_pay12; rw [pay11_eq]; rfl
theorem pay13_eq : k0_pay13 cols a w (atMin w) 1024#32 = tally (tally (tally a w) (next w)) (next (next w)) := by
  unfold k0_pay13; rw [pay8_eq, pay10_eq, pay12_eq]; rfl
theorem pay14_eq : k0_pay14 cols w (atMin w) 1024#32 = next (next (next w)) := by
  unfold k0_pay14; rw [pay11_eq, pay12_eq]; rfl
theorem pay15_eq : k0_pay15 cols w (atMin w) 1024#32 = candidates (next (next (next w))) := by
  unfold k0_pay15; rw [pay14_eq]; rfl

theorem pay16_eq : k0_pay16 cols (candidates w) = pick w := rfl
theorem pay17_eq : k0_pay17 cols w (candidates w) = next w := rfl
theorem pay18_eq : k0_pay18 cols w (candidates w) = pick (next w) := by
  unfold k0_pay18; rw [pay17_eq]; rfl
theorem pay19_eq : k0_pay19 cols w (candidates w) = next (next w) := by
  unfold k0_pay19; rw [pay17_eq, pay18_eq]; rfl
theorem pay20_eq : k0_pay20 cols w (candidates w) = pick (next (next w)) := by
  unfold k0_pay20; rw [pay19_eq]; rfl
theorem pay21_eq : k0_pay21 cols a w (candidates w) = tally (tally (tally a w) (next w)) (next (next w)) := by
  unfold k0_pay21; rw [pay16_eq, pay18_eq, pay20_eq]; rfl
theorem pay22_eq : k0_pay22 cols w (candidates w) = next (next (next w)) := by
  unfold k0_pay22; rw [pay19_eq, pay20_eq]; rfl
theorem pay23_eq : k0_pay23 cols w (candidates w) = least (candidates (next (next (next w)))) := by
  unfold k0_pay23; rw [pay22_eq]; rfl

theorem pay24_eq : k0_pay24 cols (least (candidates w)) = pick w := rfl
theorem pay25_eq : k0_pay25 cols w (least (candidates w)) = next w := rfl
theorem pay26_eq : k0_pay26 cols w (least (candidates w)) = pick (next w) := by
  unfold k0_pay26; rw [pay25_eq]; rfl
theorem pay27_eq : k0_pay27 cols w (least (candidates w)) = next (next w) := by
  unfold k0_pay27; rw [pay25_eq, pay26_eq]; rfl
theorem pay28_eq : k0_pay28 cols w (least (candidates w)) = pick (next (next w)) := by
  unfold k0_pay28; rw [pay27_eq]; rfl
theorem pay29_eq : k0_pay29 cols a w (least (candidates w)) = tally (tally (tally a w) (next w)) (next (next w)) := by
  unfold k0_pay29; rw [pay24_eq, pay26_eq, pay28_eq]; rfl
theorem pay30_eq : k0_pay30 cols w (least (candidates w)) = next (next (next w)) := by
  unfold k0_pay30; rw [pay27_eq, pay28_eq]; rfl
theorem pay31_eq : k0_pay31 cols w (least (candidates w)) = pick (next (next (next w))) := by
  unfold k0_pay31; rw [pay30_eq]; rfl
theorem pay32_eq : k0_pay32 cols w (least (candidates w)) = taken (next (next (next w))) := by
  unfold k0_pay32; rw [pay31_eq]; rfl

theorem pay33_eq : k0_pay33 w (pick w) = next w := rfl
theorem pay34_eq : k0_pay34 cols w (pick w) = pick (next w) := by
  unfold k0_pay34; rw [pay33_eq]; rfl
theorem pay35_eq : k0_pay35 cols w (pick w) = next (next w) := by
  unfold k0_pay35; rw [pay33_eq, pay34_eq]; rfl
theorem pay36_eq : k0_pay36 cols w (pick w) = pick (next (next w)) := by
  unfold k0_pay36; rw [pay35_eq]; rfl
theorem pay37_eq : k0_pay37 cols w (pick w) = next (next (next w)) := by
  unfold k0_pay37; rw [pay35_eq, pay36_eq]; rfl
theorem pay38_eq : k0_pay38 cols w (pick w) = pick (next (next (next w))) := by
  unfold k0_pay38; rw [pay37_eq]; rfl
theorem pay39_eq : k0_pay39 cols a w (pick w) (taken w)
    = tally (tally (tally (tally a w) (next w)) (next (next w))) (next (next (next w))) := by
  unfold k0_pay39; rw [pay34_eq, pay36_eq, pay38_eq]; rfl
theorem pay40_eq : k0_pay40 (F := F) = struck := rfl
theorem pay41_eq (x : FVec F S1024x3 .f32) (w1 : Vec F S6x32 .f32) (w2 : Vec F S32x64 .f32) :
    k0_pay41 x cols w (pick w) a struck w1 w2
      = hidden (feat x (tally (tally a (next w)) (next (next w)))) w1 w2 := rfl

variable (v0 : Vec F S1x3x1024 .f32) (v2 : Vec F S1x1024x3 .f32)

theorem pay4_eq : k0_pay4 v0 v2 = pick (k0_pay3 v0 v2) := rfl
theorem pay5_eq : k0_pay5 v0 v2 = acc (k0_pay3 v0 v2) 1 := by
  unfold k0_pay5; rw [pay4_eq]; rfl
theorem pay6_eq : k0_pay6 v0 v2 = work (k0_pay3 v0 v2) 1 := by
  unfold k0_pay6; rw [pay4_eq]; rfl
theorem pay7_eq : k0_pay7 v0 v2 = atMin (work (k0_pay3 v0 v2) 1) := by
  unfold k0_pay7; rw [pay6_eq]; rfl

/-! ## The block result -/

theorem zeros2 : (![0, 0] : Fin 2 → ℕ) = fun _ => 0 := by funext a; fin_cases a <;> rfl
theorem zeros3 : (![0, 0, 0] : Fin 3 → ℕ) = fun _ => 0 := by funext a; fin_cases a <;> rfl

/-- What one grid point leaves in its output block: the last layer, the maximum over the points and the readout, over
    the first two layers of the features of the sixteen-round tally. -/
theorem out_eq (x0 : Vec F S1x3x1024 .f32) (x1 : Vec F S1x1024x3 .f32) (x2 : Vec F S6x32 .f32) (x3 : Vec F S32x64 .f32)
    (x4 : Vec F S64x128 .f32) (x5 : Vec F S128x48 .f32) (x6 : Vec F S1x48 .f32) :
    out0_7 x0 x1 x2 x3 x4 x5 x6
      = k0_pay1 (hidden (feat (k0_pay2 x1) (acc (k0_pay3 x0 x1) 16)) x2 x3) x4 x5 x6 := by
  have h42 : k0_pay42 x0 x1 x2 x3 x4 x5 x6 = cols := rfl
  have h43 : k0_pay43 x0 x1 x2 x3 x4 x5 x6 = work (k0_pay3 x0 x1) 1 := by
    unfold k0_pay43; rw [ld_unit_zero zeros3, ld_unit_zero zeros3, pay6_eq]
  have h44 : k0_pay44 x0 x1 x2 x3 x4 x5 x6 = atMin (work (k0_pay3 x0 x1) 1) := by
    unfold k0_pay44; rw [ld_unit_zero zeros3, ld_unit_zero zeros3, pay7_eq]
  have h45 : k0_pay45 x0 x1 x2 x3 x4 x5 x6 = work (k0_pay3 x0 x1) 4 := by
    unfold k0_pay45; rw [h42, h43, h44, pay14_eq]; rfl
  have h46 : k0_pay46 x0 x1 x2 x3 x4 x5 x6 = candidates (work (k0_pay3 x0 x1) 4) := by
    unfold k0_pay46; rw [h42, h43, h44, pay15_eq]; rfl
  have h47 : k0_pay47 x0 x1 x2 x3 x4 x5 x6 = work (k0_pay3 x0 x1) 7 := by
    unfold k0_pay47; rw [h42, h45, h46, pay22_eq]; rfl
  have h48 : k0_pay48 x0 x1 x2 x3 x4 x5 x6 = least (candidates (work (k0_pay3 x0 x1) 7)) := by
    unfold k0_pay48; rw [h42, h45, h46, pay23_eq]; rfl
  have h49 : k0_pay49 x0 x1 x2 x3 x4 x5 x6 = work (k0_pay3 x0 x1) 10 := by
    unfold k0_pay49; rw [h42, h47, h48, pay30_eq]; rfl
  have h50 : k0_pay50 x0 x1 x2 x3 x4 x5 x6 = pick (work (k0_pay3 x0 x1) 10) := by
    unfold k0_pay50; rw [h42, h47, h48, pay31_eq]; rfl
  unfold out0_7
  rw [canon_unit_zero zeros3, ld_unit_zero zeros3, ld_unit_zero zeros3, ld_unit_zero zeros2, ld_unit_zero zeros2,
    ld_unit_zero zeros2, ld_unit_zero zeros2, ld_unit_zero zeros2, h42, h43, h44, h45, h46, h47, h48, h49, h50,
    pay5_eq, pay13_eq, pay21_eq, pay29_eq, pay32_eq, pay37_eq, pay38_eq]
  rw [show next (next (next (work (k0_pay3 x0 x1) 7))) = work (k0_pay3 x0 x1) 10 from rfl, pay39_eq, pay40_eq, pay41_eq]
  rfl

end Cert.Proof.Rounds

end
-- ==== Proof.Select.lean ====
/- The mathematics of one row's selection, free of both programs: the stable sort of a row of extended reals, greatest
   negated value first, takes at each place the FIRST position at the least value not taken before. -/
module

public import Idealize.ShloMosaic.Lib.SortPrefix
public import Idealize.ShloMosaic.PureOps.Ideal.Laws

@[expose] public section

noncomputable section

namespace Cert.Proof.Select

open Idealize.ShloMosaic

/-! ## The stable sort by a key is the sort by the key and then the position -/

/-- On a list of increasing positions two relations that agree whenever the left one is the later position sort alike. -/
theorem stableSort_congr_later {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_congr_later R R' h l hl.2]
    exact insertBefore_congr R R' a _ fun b hb => h a b (hl.1 b ((perm_stableSort R' l).mem_iff.mp hb))

/-- `j` comes before `k`: its value is less, or the values are equal and the position is less. -/
def before {n : ℕ} (f : Fin n → EReal) (j k : Fin n) : Bool :=
  decide (f j < f k) || (decide (f j = f k) && decide (j < k))

theorem before_strict {n : ℕ} (f : Fin n → EReal) : StrictTotalBefore (before f) := by
  refine StrictTotalBefore.of_key_then_position (fun a b : EReal => decide (a < b)) f ?_ ?_ ?_
  · intro a; simp
  · intro a b c hab hbc
    simp only [decide_eq_true_eq] at hab hbc ⊢
    exact lt_trans hab hbc
  · intro a b
    simp only [decide_eq_true_eq]
    exact lt_trichotomy a b

/-- The position the stable sort by "negated value greater" puts at place `k`. -/
def order {n : ℕ} (f : Fin n → EReal) : Fin n → Fin n :=
  sortedFrom fun k k' => Ideal.cmpTotal .gt (-f k) (-f k') == 1#1

/-- The comparator is "value less". -/
theorem cmp_neg (x y : EReal) : (Ideal.cmpTotal .gt (-x) (-y) == 1#1) = decide (x < y) := by
  have e : Ideal.cmpTotal .gt (-x) (-y) = BitVec.ofBool (decide (-y < -x)) := rfl
  rw [e]
  by_cases h : x < y
  · have h' : -y < -x := EReal.neg_lt_neg_iff.mpr h
    simp [h, h']
  · have h' : ¬ -y < -x := fun hh => h (EReal.neg_lt_neg_iff.mp hh)
    simp [h, h']

theorem order_eq {n : ℕ} (f : Fin n → EReal) : order f = sortedFrom (before f) := by
  have hs : sortPositions n (fun k k' => Ideal.cmpTotal .gt (-f k) (-f k') == 1#1) = sortPositions n (before f) := by
    refine stableSort_congr_later _ _ (fun a b hab => ?_) _ (List.pairwise_lt_finRange n)
    rw [cmp_neg]
    have : ¬ b < a := not_lt.mpr hab.le
    simp [before, this]
  funext k
  unfold order sortedFrom
  rw [List.get_of_eq hs]
  rfl

theorem order_injective {n : ℕ} (f : Fin n → EReal) : Function.Injective (order f) := sortedFrom_injective _

theorem order_surjective {n : ℕ} (f : Fin n → EReal) : Function.Surjective (order f) := sortedFrom_surjective _

/-- An earlier place holds a position that comes before. -/
theorem order_before {n : ℕ} (f : Fin n → EReal) {i j : Fin n} (hij : i < j) :
    f (order f i) < f (order f j) ∨ (f (order f i) = f (order f j) ∧ order f i < order f j) := by
  have hB := before_strict f
  have hne : order f i ≠ order f j := fun h => hij.ne (order_injective f h)
  have hno : before f (order f j) (order f i) = false := by
    rw [order_eq]
    exact sortedFrom_noInversion (before f) (before f) (fun a b h => hB.asymm a b h) (fun _ _ h => h) hB.negTrans i j hij
  rcases hB.total _ _ hne with h | h
  · simpa [before] using h
  · rw [hno] at h; exact absurd h (by decide)

/-! ## What is left after some rounds -/

/-- The row before round `n`: the positions of the first `n` places struck out. -/
def left {N : ℕ} (f : Fin N → EReal) (n : ℕ) (j : Fin N) : EReal :=
  open Classical in if ∃ m : Fin N, m.val < n ∧ order f m = j then ⊤ else f j

theorem left_zero {N : ℕ} (f : Fin N → EReal) (j : Fin N) : left f 0 j = f j := by
  unfold left
  rw [if_neg]
  rintro ⟨m, hm, -⟩
  exact absurd hm (Nat.not_lt_zero _)

theorem left_succ {N : ℕ} (f : Fin N → EReal) {n : ℕ} (hn : n < N) (j : Fin N) :
    left f (n + 1) j = if j = order f ⟨n, hn⟩ then ⊤ else left f n j := by
  classical
  unfold left
  by_cases hj : j = order f ⟨n, hn⟩
  · rw [if_pos hj, if_pos ⟨⟨n, hn⟩, Nat.lt_succ_self n, hj.symm⟩]
  · rw [if_neg hj]
    have : (∃ m : Fin N, m.val < n + 1 ∧ order f m = j) ↔ ∃ m : Fin N, m.val < n ∧ order f m = j := by
      constructor
      · rintro ⟨m, hm, he⟩
        rcases Nat.lt_succ_iff_lt_or_eq.mp hm with h | h
        · exact ⟨m, h, he⟩
        · exact absurd (he.symm.trans (congrArg (order f) (Fin.ext h))) hj
      · rintro ⟨m, hm, he⟩
        exact ⟨m, Nat.lt_succ_of_lt hm, he⟩
    simp only [this]

/-- Place `n`'s position is not struck out before round `n`. -/
theorem left_order {N : ℕ} (f : Fin N → EReal) {n : ℕ} (hn : n < N) : left f n (order f ⟨n, hn⟩) = f (order f ⟨n, hn⟩) := by
  unfold left
  rw [if_neg]
  rintro ⟨m, hm, he⟩
  have := order_injective f he
  subst this
  exact absurd hm (lt_irrefl _)

/-- Nothing left is less than place `n`'s value. -/
theorem left_ge {N : ℕ} (f : Fin N → EReal) {n : ℕ} (hn : n < N) (j : Fin N) :
    f (order f ⟨n, hn⟩) ≤ left f n j := by
  unfold left
  split
  · exact le_top
  · rename_i h
    obtain ⟨m, rfl⟩ := order_surjective f j
    have hm : n ≤ m.val := by
      by_contra hlt
      exact h ⟨m, not_le.mp hlt, rfl⟩
    rcases hm.lt_or_eq with hlt | heq
    · rcases order_before f (i := ⟨n, hn⟩) (j := m) hlt with h' | h'
      · exact h'.le
      · exact h'.1.le
    · exact le_of_eq (congrArg (fun k => f (order f k)) (Fin.ext heq))

/-- And the first position where it is met is place `n`'s. -/
theorem left_first {N : ℕ} (f : Fin N → EReal) (hf : ∀ j, f j ≠ ⊤) {n : ℕ} (hn : n < N) (j : Fin N)
    (hj : left f n j ≤ f (order f ⟨n, hn⟩)) : order f ⟨n, hn⟩ ≤ j := by
  unfold left at hj
  split at hj
  · exact absurd (top_le_iff.mp hj) (hf _)
  · rename_i h
    obtain ⟨m, rfl⟩ := order_surjective f j
    have hm : n ≤ m.val := by
      by_contra hlt
      exact h ⟨m, not_le.mp hlt, rfl⟩
    rcases hm.lt_or_eq with hlt | heq
    · rcases order_before f (i := ⟨n, hn⟩) (j := m) hlt with h' | h'
      · exact absurd hj (not_le.mpr h')
      · exact h'.2.le
    · exact le_of_eq (congrArg (order f) (Fin.ext heq))

/-! ## The two folds of a round -/

/-- A row's minimum from `⊤` is its value at a position no other value is below. -/
theorem fold_min {N : ℕ} (g : Fin N → EReal) (p : Fin N) (hp : ∀ j, g p ≤ g j) :
    (Finset.univ : Finset (Fin N)).fold min ⊤ g = g p := by
  refine le_antisymm ?_ ?_
  · exact (Finset.fold_min_le _).mpr (Or.inr ⟨p, Finset.mem_univ p, le_refl _⟩)
  · exact (Finset.le_fold_min _).mpr ⟨le_top, fun j _ => hp j⟩

theorem minsi_toInt (x y : BitVec 32) : (IntOp.minsi x y).toInt = min x.toInt y.toInt := by
  unfold IntOp.minsi
  split
  · rename_i h; rw [BitVec.slt_iff_toInt_lt] at h; exact (min_eq_left h.le).symm
  · rename_i h; rw [BitVec.slt_iff_toInt_lt] at h; exact (min_eq_right (not_lt.mp h)).symm

/-- The least of the words `j` where `q j` holds and 1024 elsewhere is the first `p` where `q` holds. -/
theorem fold_minsi [Std.Commutative (IntOp.minsi (w := 32))] [Std.Associative (IntOp.minsi (w := 32))]
    (q : Fin 1024 → Prop) [DecidablePred q] (p : Fin 1024) (hp : q p) (hfirst : ∀ j, q j → p ≤ j) :
    (Finset.univ : Finset (Fin 1024)).fold IntOp.minsi 2147483647#32
        (fun j => if q j then BitVec.ofNat 32 j.val else 1024#32) = BitVec.ofNat 32 p.val := by
  have hval : ∀ j : Fin 1024, (BitVec.ofNat 32 j.val).toInt = j.val := fun j => by
    have := j.isLt
    have hn : (BitVec.ofNat 32 j.val).toNat = j.val := by rw [BitVec.toNat_ofNat]; omega
    rw [BitVec.toInt_eq_toNat_of_lt (by rw [hn]; omega), hn]
  apply BitVec.eq_of_toInt_eq
  rw [← Finset.fold_hom (op' := min) (m := BitVec.toInt) minsi_toInt, hval]
  refine le_antisymm ?_ ?_
  · refine (Finset.fold_min_le _).mpr (Or.inr ⟨p, Finset.mem_univ p, ?_⟩)
    rw [if_pos hp, hval]
  · refine (Finset.le_fold_min _).mpr ⟨?_, fun j _ => ?_⟩
    · have := p.isLt
      rw [show (2147483647#32 : BitVec 32).toInt = 2147483647 by decide]; omega
    · split
      · rename_i hj; rw [hval]; exact_mod_cast hfirst j hj
      · have := p.isLt
        rw [show (1024#32 : BitVec 32).toInt = 1024 by decide]; omega

end Cert.Proof.Select

end
-- ==== Proof.Tally.lean ====
/- The kernel's rounds over extended reals: round `n` takes, in every row, the position the stable sort of that row puts
   at place `n`, so the sixteen-round tally is 1 at the first sixteen places' positions and 0 elsewhere. -/
module

public import proofs.«01_k».proof.Proof.Rounds
public import proofs.«01_k».proof.Proof.Select
public import Idealize.ShloMosaic.Lib.ValueIdx

@[expose] public section

noncomputable section

namespace Cert.Proof.Tally

open Cert.KernelIdeal Cert.KernelIdeal.Gen Idealize.ShloMosaic Idealize.ShloMosaic.ValueIdx Cert.Proof.Rounds Cert.Proof.Select

/-- A vector of one value per row, as a column spread over the rows' entries, reads the row's value. -/
theorem spread_apply {α : Type} (v : S1024.Idx → α) (i j : Fin 1024) :
    broadcastTo S1024x1024 (shapeCast S1024x1 v shapeCasts_S1024_S1024x1) broadcasts_S1024x1_S1024x1024 (ix2 i j)
      = v (ix1 i) := by
  rw [broadcastTo_apply _ _ (ix2 i j) (ix2 i (0 : Fin 1)) (fun a => by
    match a with
    | ⟨0, _⟩ => rfl
    | ⟨1, _⟩ => rfl)]
  exact shapeCast_apply v _ (ix2 i (0 : Fin 1)) (ix1 i) (by
    rw [Shape.rowMajor_val_two, Shape.rowMajor_val_one]
    show i.val = i.val * 1 + 0
    omega)

/-- The column numbers read the column. -/
theorem cols_apply (i j : Fin 1024) : cols (ix2 i j) = BitVec.ofNat 32 j.val :=
  iota_single_apply .tc S1024x1024 32 1 iota_S1024x1024_d1_w32 (ix2 i j)

/-- Putting column `k` back into row `i`. -/
theorem lift_row (i k : Fin 1024) : reduces_S1024x1024_S1024.lift (ix1 i) k = ix2 i k := by
  funext a
  match a with
  | ⟨0, _⟩ => rfl
  | ⟨1, _⟩ => rfl

theorem ofBits_inf : Ideal.ofBits .f32 0x7F800000#32 = ⊤ := by simp [Ideal.ofBits, Ideal.ieee]

variable (w : Sq Ideal)

/-- Where a row's least value is at `p`, an entry is marked when it is at most that value. -/
theorem atMin_apply (i p : Fin 1024) (hp : ∀ j, w (ix2 i p) ≤ w (ix2 i j)) (j : Fin 1024) :
    atMin w (ix2 i j) = BitVec.ofBool (decide (w (ix2 i j) ≤ w (ix2 i p))) := by
  show Ideal.cmp .ole (w (ix2 i j)) (broadcastTo _ _ _ (ix2 i j)) = _
  have e := (spread_apply _ i j).trans ((multiReduction_minimumf_eq_fold w _ reduces_S1024x1024_S1024 (.inl rfl) rfl (ix1 i)).trans (b := _) (c := w (ix2 i p)) ?_)
  · exact congrArg (Ideal.cmp .ole (w (ix2 i j))) e
  · refine (reduces_S1024x1024_S1024.fold_filter_drop_single min _ w (ix1 i)).trans ?_
    have h1 : (w ∘ reduces_S1024x1024_S1024.lift (ix1 i)) = fun k : Fin 1024 => w (ix2 i k) :=
      funext fun k => congrArg w (lift_row i k)
    rw [h1]
    show (Finset.univ : Finset (Fin 1024)).fold min (Ideal.ofBits .f32 0x7F800000#32) _ = _
    rw [ofBits_inf]
    exact fold_min (fun k => w (ix2 i k)) p hp

/-- A round takes, in row `i`, the position `p` that holds the row's least value first. -/
theorem pick_apply (i p : Fin 1024) (hp : ∀ j, w (ix2 i p) ≤ w (ix2 i j))
    (hfirst : ∀ j, w (ix2 i j) ≤ w (ix2 i p) → p ≤ j) (j : Fin 1024) :
    pick w (ix2 i j) = BitVec.ofBool (decide (j = p)) := by
  classical
  show IntOp.cmpi .eq (cols (ix2 i j)) (least (candidates w) (ix2 i j)) = _
  have hl : least (candidates w) (ix2 i j) = BitVec.ofNat 32 p.val := by
    refine (spread_apply _ i j).trans ?_
    refine (multiReductionI_eq_fold .minsi (candidates w) _ reduces_S1024x1024_S1024 rfl (ix1 i)).trans ?_
    refine (reduces_S1024x1024_S1024.fold_filter_drop_single IntOp.minsi _ (candidates w) (ix1 i)).trans ?_
    rw [← fold_minsi (fun k => w (ix2 i k) ≤ w (ix2 i p)) p (le_refl _) hfirst]
    refine Finset.fold_congr fun (k : Fin 1024) _ => ?_
    refine (congrArg (candidates w) (lift_row i k)).trans ?_
    show Scalar.select (atMin w (ix2 i k)) (cols (ix2 i k)) 1024#32 = _
    rw [atMin_apply w i p hp, cols_apply]
    by_cases h : w (ix2 i k) ≤ w (ix2 i p)
    · rw [if_pos h, decide_eq_true h]; rfl
    · rw [if_neg h, decide_eq_false h]; rfl
  rw [hl, cols_apply]
  refine congrArg BitVec.ofBool ?_
  rw [Bool.eq_iff_iff, beq_iff_eq, decide_eq_true_eq]
  constructor
  · intro h
    have h' := congrArg BitVec.toNat h
    rw [BitVec.toNat_ofNat, BitVec.toNat_ofNat] at h'
    have := j.isLt
    have := p.isLt
    exact Fin.ext (by omega)
  · rintro rfl; rfl

/-- The named constant is `⊤`. -/
theorem struck_apply (i j : Fin 1024) : struck (F := Ideal) (ix2 i j) = ⊤ := by
  show (κ "big").getD (Ideal.ofBits .f32 0x7F61B1E6#32) = ⊤
  rfl

/-- What a round leaves: the taken positions at `⊤`. -/
theorem next_apply (i p : Fin 1024) (hp : ∀ j, w (ix2 i p) ≤ w (ix2 i j))
    (hfirst : ∀ j, w (ix2 i j) ≤ w (ix2 i p) → p ≤ j) (j : Fin 1024) :
    next w (ix2 i j) = if j = p then ⊤ else w (ix2 i j) := by
  show Scalar.select (pick w (ix2 i j)) (struck (F := Ideal) (ix2 i j)) (w (ix2 i j)) = _
  rw [pick_apply w i p hp hfirst, struck_apply]
  by_cases h : j = p
  · rw [if_pos h, decide_eq_true h]; rfl
  · rw [if_neg h, decide_eq_false h]; rfl

/-- What a round takes, as zeros and ones. -/
theorem taken_apply (i p : Fin 1024) (hp : ∀ j, w (ix2 i p) ≤ w (ix2 i j))
    (hfirst : ∀ j, w (ix2 i j) ≤ w (ix2 i p) → p ≤ j) (j : Fin 1024) :
    taken w (ix2 i j) = if j = p then 1 else 0 := by
  show ((((pick w (ix2 i j)).setWidth 32).toInt : ℝ) : EReal) = _
  rw [pick_apply w i p hp hfirst]
  by_cases h : j = p
  · rw [if_pos h, decide_eq_true h, show ((BitVec.ofBool true).setWidth 32).toInt = 1 by decide]; simp
  · rw [if_neg h, decide_eq_false h, show ((BitVec.ofBool false).setWidth 32).toInt = 0 by decide]; simp

variable (d : Sq Ideal) (hd : ∀ i j, d (ix2 i j) ≠ ⊤)
include hd

/-- Before round `n` the row is the sorted row's first `n` places struck out. -/
theorem work_apply (i : Fin 1024) : ∀ n, n ≤ 1024 → ∀ j, work d n (ix2 i j) = left (fun k => d (ix2 i k)) n j
  | 0, _, j => (left_zero (fun k => d (ix2 i k)) j).symm
  | n + 1, hn, j => by
    have hn' : n < 1024 := hn
    have ih := work_apply i n hn'.le
    have hp : ∀ j, work d n (ix2 i (order (fun k => d (ix2 i k)) ⟨n, hn'⟩)) ≤ work d n (ix2 i j) := fun j => by
      rw [ih, ih, left_order]; exact left_ge (fun k => d (ix2 i k)) hn' j
    have hfirst : ∀ j, work d n (ix2 i j) ≤ work d n (ix2 i (order (fun k => d (ix2 i k)) ⟨n, hn'⟩)) →
        order (fun k => d (ix2 i k)) ⟨n, hn'⟩ ≤ j := fun j hj => by
      rw [ih, ih, left_order] at hj; exact left_first (fun k => d (ix2 i k)) (hd i) hn' j hj
    show next (work d n) (ix2 i j) = _
    rw [next_apply _ i _ hp hfirst, left_succ _ hn', ih]

/-- Round `n`'s take. -/
theorem taken_work_apply (i : Fin 1024) (n : ℕ) (hn : n < 1024) (j : Fin 1024) :
    taken (work d n) (ix2 i j) = if j = order (fun k => d (ix2 i k)) ⟨n, hn⟩ then 1 else 0 := by
  have ih := work_apply d hd i n hn.le
  refine taken_apply _ i _ (fun j => ?_) (fun j hj => ?_) j
  · rw [ih, ih, left_order]; exact left_ge (fun k => d (ix2 i k)) hn j
  · rw [ih, ih, left_order] at hj; exact left_first (fun k => d (ix2 i k)) (hd i) hn j hj

/-- The tally before round `n` is the sum of the rounds' takes. -/
theorem acc_apply (i j : Fin 1024) : ∀ n (hn : n ≤ 1024), acc d n (ix2 i j)
      = ∑ m : Fin n, if j = order (fun k => d (ix2 i k)) (m.castLE hn) then (1 : EReal) else 0
  | 0, _ => by
    show Ideal.ofBits .f32 0x00000000#32 = _
    rw [Ideal.ofBits_zero_f32]; simp
  | n + 1, hn => by
    rw [Fin.sum_univ_castSucc]
    show acc d n (ix2 i j) + taken (work d n) (ix2 i j) = _
    rw [acc_apply i j n (Nat.le_of_succ_le hn), taken_work_apply d hd i n hn]
    rfl

end Cert.Proof.Tally

end
-- ==== Proof.Spec.lean ====
/- What both programs compute for one batch entry, written over extended reals on plain coordinates: squared distances,
   the sixteen nearest points of every point in sorted order, the summed offsets to them, three layers, the maximum over
   the points, and the last affine map. -/
module

public import proofs.«01_k».proof.Proof.Select

@[expose] public section

noncomputable section

namespace Cert.Proof.Spec

open Cert.Proof.Select

/-- The expanded squared distance of points `i` and `j`. -/
def dist {N D : ℕ} (X : Fin N → Fin D → EReal) (i j : Fin N) : EReal :=
  (∑ k, X i k * X i k) + (∑ k, X j k * X j k) - 2 * ∑ k, X i k * X j k

/-- The `m`-th nearest point of point `i`. -/
def near (X : Fin 1024 → Fin 3 → EReal) (i : Fin 1024) (m : Fin 16) : Fin 1024 :=
  order (dist X i) (m.castLE (by decide))

/-- The sum of a point's offsets from its sixteen nearest points. -/
def offset (X : Fin 1024 → Fin 3 → EReal) (i : Fin 1024) (k : Fin 3) : EReal := ∑ m, (X i k - X (near X i m) k)

/-- A point's coordinates beside its summed offsets. -/
def feature (X : Fin 1024 → Fin 3 → EReal) (i : Fin 1024) (c : Fin 6) : EReal :=
  if h : c.val < 3 then X i ⟨c.val, h⟩ else offset X i ⟨c.val - 3, by omega⟩

/-- A linear layer followed by the positive part. -/
def layer {M K N : ℕ} (f : Fin M → Fin K → EReal) (w : Fin K → Fin N → EReal) (i : Fin M) (c : Fin N) : EReal :=
  max (∑ k, f i k * w k c) 0

/-- The greatest value of each feature over the points. -/
def best {M K : ℕ} (f : Fin M → Fin K → EReal) (c : Fin K) : EReal := (Finset.univ : Finset (Fin M)).fold max ⊥ fun i => f i c

/-- The last affine map. -/
def affine {K N : ℕ} (f : Fin K → EReal) (w : Fin K → Fin N → EReal) (b : Fin N → EReal) (c : Fin N) : EReal :=
  (∑ k, f k * w k c) + b c

/-- One batch entry's keypoint coordinates. -/
def keypoints (X : Fin 1024 → Fin 3 → EReal) (w1 : Fin 6 → Fin 32 → EReal) (w2 : Fin 32 → Fin 64 → EReal)
    (w3 : Fin 64 → Fin 128 → EReal) (w4 : Fin 128 → Fin 48 → EReal) (b4 : Fin 48 → EReal) : Fin 48 → EReal :=
  affine (best (layer (layer (layer (feature X) w1) w2) w3)) w4 b4

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distances between real points are real. -/
theorem dist_ne_top {N D : ℕ} (X : Fin N → Fin D → EReal) (x : Fin N → Fin D → ℝ) (hx : ∀ i k, X i k = (x i k : EReal))
    (i j : Fin N) : dist X i j ≠ ⊤ := by
  have : dist X i j
      = (((∑ k, x i k * x i k) + (∑ k, x j k * x j k) - 2 * ∑ k, x i k * x j k : ℝ) : EReal) := by
    unfold dist
    simp only [hx, EReal.coe_sub, EReal.coe_add, EReal.coe_mul, coe_sum]
    rfl
  rw [this]
  exact EReal.coe_ne_top _

/-- For real values, sixteen times a value less the total of the entries a 0/1 tally marks is the sum of the differences
    from those entries. -/
theorem offset_eq {N n : ℕ} (x : Fin N → ℝ) (o : Fin n → Fin N) (i : Fin N) :
    ((n : ℝ) : EReal) * (x i : EReal) - ∑ j, (∑ m, if j = o m then (1 : EReal) else 0) * (x j : EReal)
      = ∑ m, ((x i : EReal) - (x (o m) : EReal)) := by
  have h1 : ∀ j, (∑ m, if j = o m then (1 : EReal) else 0) = ((∑ m, if j = o m then (1 : ℝ) else 0 : ℝ) : EReal) := fun j => by
    rw [coe_sum]
    refine Finset.sum_congr rfl fun m _ => ?_
    split <;> simp
  simp only [h1, ← EReal.coe_mul, ← EReal.coe_sub, ← coe_sum]
  refine congrArg _ ?_
  have h2 : ∑ j, (∑ m, if j = o m then (1 : ℝ) else 0) * x j = ∑ m, x (o m) := by
    simp only [Finset.sum_mul]
    rw [Finset.sum_comm]
    simp
  rw [h2, Finset.sum_sub_distrib]
  simp

end Cert.Proof.Spec

end
-- ==== Proof.Block.lean ====
/- One grid point's output over extended reals: the block the kernel writes is one batch entry's keypoint coordinates. -/
module

public import proofs.«01_k».proof.Proof.Tally
public import proofs.«01_k».proof.Proof.Spec
public import Idealize.ShloMosaic.Lib.MatmulPlain

@[expose] public section

noncomputable section

namespace Cert.Proof.Block

open Cert.KernelIdeal Cert.KernelIdeal.Gen Idealize.ShloMosaic Idealize.ShloMosaic.ValueIdx Cert.Proof.Rounds Cert.Proof.Select
  Cert.Proof.Spec

theorem ofBits_two : Ideal.ofBits .f32 0x40000000#32 = 2 := by
  simp [Ideal.ofBits, Ideal.ieee, -EReal.coe_mul]; norm_num; rfl
theorem ofBits_sixteen : Ideal.ofBits .f32 0x41800000#32 = ((16 : ℕ) : ℝ) := by
  simp [Ideal.ofBits, Ideal.ieee, -EReal.coe_mul]; norm_num
theorem ofBits_neg_inf : Ideal.ofBits .f32 0xFF800000#32 = ⊥ := by simp [Ideal.ofBits, Ideal.ieee]

/-- A product onto a zero accumulator, at an index. -/
theorem product_apply {M K N : ℕ} (prec : Option ContractPrecision) (lhs : FVec Ideal ⟨2, ![M, K]⟩ .f32)
    (rhs : FVec Ideal ⟨2, ![K, N]⟩ .f32) (r : Fin M) (c : Fin N) :
    matmul (DotDims.plain M K N) prec lhs rhs (constant ⟨2, ![M, N]⟩ .f32 0x00000000#32) (ix2 r c)
      = ∑ k : Fin K, lhs (ix2 r k) * rhs (ix2 k c) := by
  refine (Ideal.matmul_plain_apply prec lhs rhs _ r c).trans ?_
  show Ideal.ofBits .f32 0x00000000#32 + _ = _
  rw [Ideal.ofBits_zero_f32, zero_add]

/-- A product followed by the positive part is the layer. -/
theorem layer_apply {M K N : ℕ} (prec : Option ContractPrecision) (f : FVec Ideal ⟨2, ![M, K]⟩ .f32)
    (w : FVec Ideal ⟨2, ![K, N]⟩ .f32) (g : Fin M → Fin K → EReal) (hf : ∀ i k, f (ix2 i k) = g i k) (i : Fin M) (c : Fin N) :
    maximumf (matmul (DotDims.plain M K N) prec f w (constant ⟨2, ![M, N]⟩ .f32 0x00000000#32))
        (broadcast ⟨2, ![M, N]⟩ (Scalar.ofBits .f32 0x00000000#32)) (ix2 i c)
      = layer g (fun k c => w (ix2 k c)) i c := by
  show max (matmul _ _ _ _ _ (ix2 i c)) (Ideal.ofBits .f32 0x00000000#32) = _
  rw [product_apply, Ideal.ofBits_zero_f32]
  simp only [hf]
  rfl

variable (x0 : FVec Ideal S1x3x1024 .f32) (x1 : FVec Ideal S1x1024x3 .f32) (X : Fin 1024 → Fin 3 → EReal)
  (h0 : ∀ i k, x0 (ix3 (0 : Fin 1) k i) = X i k) (h1 : ∀ i k, x1 (ix3 (0 : Fin 1) i k) = X i k)

include h1 in
/-- The points as rows. -/
theorem rows_apply (i : Fin 1024) (k : Fin 3) : k0_pay2 (F := Ideal) x1 (ix2 i k) = X i k := by
  refine (shapeCast_apply x1 shapeCasts_S1x1024x3_S1024x3 (ix2 i k) (ix3 (0 : Fin 1) i k) ?_).trans (h1 i k)
  rw [Shape.rowMajor_val_three, Shape.rowMajor_val_two]
  show (0 * 1024 + i.val) * 3 + k.val = i.val * 3 + k.val
  omega

include h0 in
/-- The points as columns. -/
theorem columns_apply (i : Fin 1024) (k : Fin 3) :
    shapeCast S3x1024 x0 shapeCasts_S1x3x1024_S3x1024 (ix2 k i) = X i k := by
  refine (shapeCast_apply x0 shapeCasts_S1x3x1024_S3x1024 (ix2 k i) (ix3 (0 : Fin 1) k i) ?_).trans (h0 i k)
  rw [Shape.rowMajor_val_three, Shape.rowMajor_val_two]
  show (0 * 3 + k.val) * 1024 + i.val = k.val * 1024 + i.val
  omega

/-- One row of a three-row matrix, spread over all rows. -/
theorem slice_apply (v : S3x1024.Idx → EReal) (n : ℕ) (k : Fin 3) (hk : k.val = n) (h : S3x1024.Slices ![n, 0] S1x1024)
    (j : Fin 1024) : extractStridedSlice S1x1024 ![n, 0] v h (ix2 (0 : Fin 1) j) = v (ix2 k j) :=
  extractStridedSlice_apply _ v h _ _ fun a => by
    match a with
    | ⟨0, _⟩ => exact hk
    | ⟨1, _⟩ => exact (Nat.zero_add _).symm

include h0 h1 in
/-- The kernel's distance matrix. -/
theorem dist_apply (i j : Fin 1024) : k0_pay3 (F := Ideal) x0 x1 (ix2 i j) = dist X i j := by
  have hr := rows_apply x1 X h1
  have hc := columns_apply x0 X h0
  have e1 : multiReduction (F := Ideal) .add [1] S1024 (mulf (k0_pay2 (F := Ideal) x1) (k0_pay2 (F := Ideal) x1)) 0x00000000#32 reduces_S1024x3_S1024
      (.inl rfl) rfl (ix1 i) = ∑ k, X i k * X i k := by
    refine (Ideal.multiReduction_add_single _ _ reduces_S1024x3_S1024 (.inl rfl) rfl (ix1 i)).trans ?_
    refine Finset.sum_congr rfl fun (k : Fin 3) _ => ?_
    have e : reduces_S1024x3_S1024.lift (ix1 i) k = ix2 i k := by
      funext a
      match a with
      | ⟨0, _⟩ => rfl
      | ⟨1, _⟩ => rfl
    refine (congrArg (mulf (k0_pay2 (F := Ideal) x1) (k0_pay2 (F := Ideal) x1)) e).trans ?_
    show k0_pay2 (F := Ideal) x1 (ix2 i k) * k0_pay2 (F := Ideal) x1 (ix2 i k) = _
    rw [hr]
  have e2 : ∀ v : S1x1024.Idx → EReal, broadcastTo S1024x1024 v broadcasts_S1x1024_S1024x1024 (ix2 i j) = v (ix2 (0 : Fin 1) j) :=
    fun v => broadcastTo_apply _ _ (ix2 i j) (ix2 (0 : Fin 1) j) (fun a => by
      match a with
      | ⟨0, _⟩ => rfl
      | ⟨1, _⟩ => rfl)
  have e3 := product_apply none (k0_pay2 (F := Ideal) x1) (shapeCast S3x1024 x0 shapeCasts_S1x3x1024_S3x1024) i j
  have s0 := slice_apply (shapeCast S3x1024 x0 shapeCasts_S1x3x1024_S3x1024) 0 0 rfl slices_S3x1024_o0_0_S1x1024 j
  have s1 := slice_apply (shapeCast S3x1024 x0 shapeCasts_S1x3x1024_S3x1024) 1 1 rfl slices_S3x1024_o1_0_S1x1024 j
  have s2 := slice_apply (shapeCast S3x1024 x0 shapeCasts_S1x3x1024_S3x1024) 2 2 rfl slices_S3x1024_o2_0_S1x1024 j
  have sq : ∀ a b c : FVec Ideal S1x1024 .f32, addf (addf (mulf a a) (mulf b b)) (mulf c c) (ix2 (0 : Fin 1) j)
      = a (ix2 (0 : Fin 1) j) * a (ix2 (0 : Fin 1) j) + b (ix2 (0 : Fin 1) j) * b (ix2 (0 : Fin 1) j)
        + c (ix2 (0 : Fin 1) j) * c (ix2 (0 : Fin 1) j) := fun _ _ _ => rfl
  have rest : ∀ p q r : FVec Ideal S1024x1024 .f32,
      subf (addf p q) (mulf (broadcast S1024x1024 (Scalar.ofBits .f32 0x40000000#32)) r) (ix2 i j)
        = p (ix2 i j) + q (ix2 i j) - Ideal.ofBits .f32 0x40000000#32 * r (ix2 i j) := fun _ _ _ => rfl
  refine (rest _ _ _).trans ?_
  refine congrArg₂ (fun a b => a - b) (congrArg₂ (fun a b => a + b) ((Tally.spread_apply _ i j).trans e1) ?_) ?_
  · refine (e2 _).trans ((sq _ _ _).trans ?_)
    rw [s0, s1, s2, hc, hc, hc, Fin.sum_univ_three]
  · rw [ofBits_two]
    refine congrArg (fun a => 2 * a) (e3.trans ?_)
    exact Finset.sum_congr rfl fun k _ => by rw [hr, hc]

/-- The first three features are the point's coordinates. -/
theorem feat_left (p : FVec Ideal S1024x3 .f32) (a : FVec Ideal S1024x1024 .f32) (i : Fin 1024) (c : Fin 6) (k : Fin 3)
    (hk : k.val = c.val) : feat (F := Ideal) p a (ix2 i c) = p (ix2 i k) :=
  concatenate_pair_apply_left (t := S1024x6) 1 _ _ concatenates_S1024x3_S1024x3_S1024x6_d1 (ix2 i c) rfl (ix2 i k) fun d => by
    match d with
    | ⟨0, _⟩ => rfl
    | ⟨1, _⟩ => exact hk

/-- The last three features are sixteen times the point's coordinates less the products of the choices with the points. -/
theorem feat_right (p : FVec Ideal S1024x3 .f32) (a : FVec Ideal S1024x1024 .f32) (i : Fin 1024) (c : Fin 6) (k : Fin 3)
    (hk : k.val + 3 = c.val) : feat (F := Ideal) p a (ix2 i c)
      = ((16 : ℕ) : ℝ) * p (ix2 i k) - ∑ j : Fin 1024, a (ix2 i j) * p (ix2 j k) := by
  refine (concatenate_pair_apply_right (t := S1024x6) 1 _ _ concatenates_S1024x3_S1024x3_S1024x6_d1 (ix2 i c) rfl rfl
    (ix2 i k) (fun d hd => ?_) hk).trans ?_
  · match d, hd with
    | ⟨0, _⟩, _ => rfl
    | ⟨1, _⟩, hd => exact absurd rfl hd
  · have e := product_apply (some .fp32) a p i k
    rw [← e, ← ofBits_sixteen]
    rfl

variable (x : Fin 1024 → Fin 3 → ℝ) (hx : ∀ i k, X i k = (x i k : EReal))

include h0 h1 hx in
/-- The kernel's features. -/
theorem feat_apply (i : Fin 1024) (c : Fin 6) :
    feat (F := Ideal) (k0_pay2 (F := Ideal) x1) (acc (k0_pay3 (F := Ideal) x0 x1) 16) (ix2 i c) = feature X i c := by
  have hr := rows_apply x1 X h1
  have hd := dist_apply x0 x1 X h0 h1
  generalize k0_pay2 (F := Ideal) x1 = p at hr ⊢
  generalize k0_pay3 (F := Ideal) x0 x1 = d at hd ⊢
  have ha := fun j => Tally.acc_apply d (fun i j => by rw [hd]; exact dist_ne_top X x hx i j) i j 16 (by decide)
  generalize acc d 16 = a at ha ⊢
  unfold feature
  split
  · next h => exact (feat_left p a i c ⟨c.val, h⟩ rfl).trans (hr _ _)
  · next h =>
    have hk : c.val - 3 < 3 := by omega
    refine (feat_right p a i c ⟨c.val - 3, hk⟩ (Nat.sub_add_cancel (Nat.le_of_not_lt h))).trans ?_
    generalize (⟨c.val - 3, hk⟩ : Fin 3) = k
    have hd' : (fun k => d (ix2 i k)) = dist X i := funext (hd i)
    refine Eq.trans ?_ ((offset_eq (fun j => x j k) (fun m : Fin 16 => order (fun k => d (ix2 i k))
      (m.castLE (by decide))) i).trans ?_)
    · rw [hr, hx]
      refine congrArg (fun b : EReal => _ - b) (Finset.sum_congr rfl fun j _ => ?_)
      rw [ha, hr, hx]
    · unfold offset near
      rw [hd']
      exact Finset.sum_congr rfl fun m _ => by rw [hx, hx]

variable (x2 : FVec Ideal S6x32 .f32) (x3 : FVec Ideal S32x64 .f32) (x4 : FVec Ideal S64x128 .f32)
  (x5 : FVec Ideal S128x48 .f32) (x6 : FVec Ideal S1x48 .f32)

/-- The greatest value of each column. -/
theorem best_apply (f : FVec Ideal S1024x128 .f32) (g : Fin 1024 → Fin 128 → EReal) (hf : ∀ i c, f (ix2 i c) = g i c)
    (c : Fin 128) : shapeCast S1x128 (multiReduction .maximumf [0] S128 f 0xFF800000#32 reduces_S1024x128_S128 (.inl rfl) rfl)
      shapeCasts_S128_S1x128 (ix2 (0 : Fin 1) c) = best g c := by
  refine (shapeCast_apply _ _ (ix2 (0 : Fin 1) c) (ix1 c) (by
    rw [Shape.rowMajor_val_two, Shape.rowMajor_val_one]
    show c.val = 0 * 128 + c.val
    omega)).trans ?_
  refine (Ideal.multiReduction_maximumf_single f _ reduces_S1024x128_S128 (.inl rfl) rfl (ix1 c)).trans ?_
  unfold best
  refine congrArg₂ (fun b (h : Fin 1024 → EReal) => (Finset.univ : Finset (Fin 1024)).fold max b h) ofBits_neg_inf ?_
  funext i
  refine Eq.trans ?_ (hf i c)
  refine congrArg f ?_
  funext a
  match a with
  | ⟨0, _⟩ => rfl
  | ⟨1, _⟩ => rfl

/-- The last layer, the maximum over the points and the affine map, of the first two layers' values. -/
theorem pay1_eq (f : FVec Ideal S1024x64 .f32) : k0_pay1 (F := Ideal) f x4 x5 x6
    = shapeCast S1x1x48 (addf (matmul (DotDims.plain 1 128 48) none
        (shapeCast S1x128 (multiReduction .maximumf [0] S128
          (maximumf (matmul (DotDims.plain 1024 64 128) none f x4 (constant S1024x128 .f32 0x00000000#32))
            (broadcast S1024x128 (Scalar.ofBits .f32 0x00000000#32)))
          0xFF800000#32 reduces_S1024x128_S128 (.inl rfl) rfl) shapeCasts_S128_S1x128)
        x5 (constant S1x48 .f32 0x00000000#32)) (shapeCast S1x48 x6 shapeCasts_S1x48_S1x48)) shapeCasts_S1x48_S1x1x48 := rfl

/-- The sum of two rows, reshaped. -/
theorem sum_apply (q b : FVec Ideal S1x48 .f32) (c : Fin 48) :
    shapeCast S1x1x48 (addf q b) shapeCasts_S1x48_S1x1x48 (ix3 (0 : Fin 1) (0 : Fin 1) c)
      = q (ix2 (0 : Fin 1) c) + b (ix2 (0 : Fin 1) c) :=
  (shapeCast_apply (addf q b) shapeCasts_S1x48_S1x1x48 (ix3 (0 : Fin 1) (0 : Fin 1) c) (ix2 (0 : Fin 1) c) (by
    rw [Shape.rowMajor_val_two, Shape.rowMajor_val_three]
    show 0 * 48 + c.val = (0 * 1 + 0) * 48 + c.val
    omega)).trans rfl

/-- The affine map of a row, with its sum reshaped. -/
theorem affine_apply (t : FVec Ideal S1x128 .f32) (v : Fin 128 → EReal) (ht : ∀ k, t (ix2 (0 : Fin 1) k) = v k) (c : Fin 48) :
    shapeCast S1x1x48 (addf (matmul (DotDims.plain 1 128 48) none t x5 (constant S1x48 .f32 0x00000000#32))
        (shapeCast S1x48 x6 shapeCasts_S1x48_S1x48)) shapeCasts_S1x48_S1x1x48 (ix3 (0 : Fin 1) (0 : Fin 1) c)
      = affine v (fun k c => x5 (ix2 k c)) (fun c => x6 (ix2 (0 : Fin 1) c)) c := by
  have hp := product_apply none t x5 (0 : Fin 1) c
  simp only [ht] at hp
  have hs : shapeCast S1x48 x6 shapeCasts_S1x48_S1x48 (ix2 (0 : Fin 1) c) = x6 (ix2 (0 : Fin 1) c) :=
    shapeCast_apply x6 shapeCasts_S1x48_S1x48 _ (ix2 (0 : Fin 1) c) rfl
  rw [sum_apply]
  unfold affine
  exact congrArg₂ (fun a b : EReal => a + b) hp hs

/-- The rest of the body, at an index. -/
theorem last_apply (f : FVec Ideal S1024x64 .f32) (g : Fin 1024 → Fin 64 → EReal) (hf : ∀ i c, f (ix2 i c) = g i c)
    (c : Fin 48) : k0_pay1 (F := Ideal) f x4 x5 x6 (ix3 (0 : Fin 1) (0 : Fin 1) c)
      = affine (best (layer g (fun k c => x4 (ix2 k c)))) (fun k c => x5 (ix2 k c)) (fun c => x6 (ix2 (0 : Fin 1) c)) c := by
  rw [pay1_eq]
  exact affine_apply x5 x6 _ _ (best_apply _ (layer g (fun k c => x4 (ix2 k c))) (layer_apply none f x4 g hf)) c

/-- The first two layers, at an index. -/
theorem hidden_apply (f : FVec Ideal S1024x6 .f32) (g : Fin 1024 → Fin 6 → EReal) (hf : ∀ i c, f (ix2 i c) = g i c)
    (i : Fin 1024) (c : Fin 64) : hidden f x2 x3 (ix2 i c)
      = layer (layer g (fun k c => x2 (ix2 k c))) (fun k c => x3 (ix2 k c)) i c := by
  have h1 := layer_apply none f x2 g hf
  exact layer_apply none _ x3 _ h1 i c

include h0 h1 hx in
/-- The block one grid point writes. -/
theorem out_apply (c : Fin 48) : out0_7 (F := Ideal) x0 x1 x2 x3 x4 x5 x6 (ix3 (0 : Fin 1) (0 : Fin 1) c)
    = keypoints X (fun k c => x2 (ix2 k c)) (fun k c => x3 (ix2 k c)) (fun k c => x4 (ix2 k c)) (fun k c => x5 (ix2 k c))
        (fun c => x6 (ix2 (0 : Fin 1) c)) c := by
  rw [out_eq]
  exact last_apply x4 x5 x6 _ _ (hidden_apply x2 x3 _ _ (feat_apply x0 x1 X h0 h1 x hx)) c

end Cert.Proof.Block

end
-- ==== Proof.Array.lean ====
/- The kernel's output array over extended reals: entry `b` of the array is the block grid point `b` writes, which is batch
   entry `b`'s keypoint coordinates. -/
module

public import proofs.«01_k».proof.Proof.Block
public import Idealize.ShloMosaic.Lib.StableHlo.Run

@[expose] public section

noncomputable section

namespace Cert.Proof.Array

open Cert.KernelIdeal Cert.KernelIdeal.Gen Idealize.ShloMosaic Idealize.ShloMosaic.TcCoe Idealize.SL.Sem
  Idealize.ShloMosaic.ValueIdx Cert.Proof.Spec
open Idealize.ShloMosaic.Pipeline (Dat)

variable (m : (ℓ : Loc nD τ sig) → Buf (Elt Ideal) ℓ) (c : Dev nD)

/-- Grid point `b`. -/
def point (b : Fin 16) : Fin cfg0.N := ⟨b.val, b.isLt⟩

/-! ## Where each window's block lies -/

theorem index0 : ∀ t : Fin grid0.N, win0_0.index t = ![t.val, 0, 0] := by decide +kernel
theorem index1 : ∀ t : Fin grid0.N, win0_1.index t = ![t.val, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![t.val, 0, 0] := by decide +kernel
theorem flush7 : ∀ t : Fin grid0.N, win0_7.flush t = true := by decide +kernel

/-! ## The arrays the grid reads that the host fills -/

theorem V_points : (V m c main_v0 : S16x1024x3.Idx → EReal)
    = transpose S16x1024x3 [0, 2, 1] (m ((c : Thread nD τ).loc main_arg0) : S16x3x1024.Idx → EReal)
        transposes_S16x3x1024_S16x1024x3_0_2_1 := by
  show StableHlo.after hostOps0 _ _ = _
  after_results

theorem V_bias : (V m c main_v1 : S1x48.Idx → EReal)
    = shapeCast S1x48 (m ((c : Thread nD τ).loc main_arg5) : S48.Idx → EReal) shapeCasts_S48_S1x48 := by
  show StableHlo.after hostOps0 _ _ = _
  after_results
  rfl

/-! ## The blocks -/

theorem block0 (b : Fin 16) (k : Fin 3) (i : Fin 1024) : (iblk m c 0 (point b) : S1x3x1024.Idx → EReal) (ix3 (0 : Fin 1) k i)
    = (m ((c : Thread nD τ).loc main_arg0) : S16x3x1024.Idx → EReal) (ix3 b k i) := by
  refine Eq.trans ?_ (congrFun (V_main_arg0 m c) (ix3 b k i : S16x3x1024.Idx))
  show (V m c main_arg0 : S16x3x1024.Idx → EReal) ((win0_0.rect (point b)).emb _) = (V m c main_arg0 : S16x3x1024.Idx → EReal) _
  refine congrArg (V m c main_arg0 : S16x3x1024.Idx → EReal) ?_
  funext a
  apply Fin.ext
  rw [Pipeline.Window.rect_emb_val win0_0 (point b), index0]
  match a with
  | ⟨0, _⟩ => show b.val * 1 + 0 = b.val; omega
  | ⟨1, _⟩ => show 0 * 3 + k.val = k.val; omega
  | ⟨2, _⟩ => show 0 * 1024 + i.val = i.val; omega

theorem block1 (b : Fin 16) (i : Fin 1024) (k : Fin 3) : (iblk m c 1 (point b) : S1x1024x3.Idx → EReal) (ix3 (0 : Fin 1) i k)
    = (m ((c : Thread nD τ).loc main_arg0) : S16x3x1024.Idx → EReal) (ix3 b k i) := by
  have ht : (V m c main_v0 : S16x1024x3.Idx → EReal) (ix3 b i k)
      = (m ((c : Thread nD τ).loc main_arg0) : S16x3x1024.Idx → EReal) (ix3 b k i) := by
    rw [V_points]
    exact transpose_apply [0, 2, 1] _ transposes_S16x3x1024_S16x1024x3_0_2_1 (ix3 b i k) (ix3 b k i) fun a => by
      match a with
      | ⟨0, _⟩ => rfl
      | ⟨1, _⟩ => rfl
      | ⟨2, _⟩ => rfl
  refine Eq.trans ?_ ht
  show (V m c main_v0 : S16x1024x3.Idx → EReal) ((win0_1.rect (point b)).emb _) = (V m c main_v0 : S16x1024x3.Idx → EReal) _
  refine congrArg (V m c main_v0 : S16x1024x3.Idx → EReal) ?_
  funext a
  apply Fin.ext
  rw [Pipeline.Window.rect_emb_val win0_1 (point b), index1]
  match a with
  | ⟨0, _⟩ => show b.val * 1 + 0 = b.val; omega
  | ⟨1, _⟩ => show 0 * 1024 + i.val = i.val; omega
  | ⟨2, _⟩ => show 0 * 3 + k.val = k.val; omega

theorem block2 (b : Fin 16) (k : Fin 6) (l : Fin 32) : (iblk m c 2 (point b) : S6x32.Idx → EReal) (ix2 k l)
    = (m ((c : Thread nD τ).loc main_arg1) : S6x32.Idx → EReal) (ix2 k l) := by
  refine Eq.trans ?_ (congrFun (V_main_arg1 m c) (ix2 k l : S6x32.Idx))
  show (V m c main_arg1 : S6x32.Idx → EReal) ((win0_2.rect (point b)).emb _) = (V m c main_arg1 : S6x32.Idx → EReal) _
  refine congrArg (V m c main_arg1 : S6x32.Idx → EReal) ?_
  funext a
  apply Fin.ext
  rw [Pipeline.Window.rect_emb_val win0_2 (point b), index2]
  match a with
  | ⟨0, _⟩ => show 0 * 6 + k.val = k.val; omega
  | ⟨1, _⟩ => show 0 * 32 + l.val = l.val; omega

theorem block3 (b : Fin 16) (k : Fin 32) (l : Fin 64) : (iblk m c 3 (point b) : S32x64.Idx → EReal) (ix2 k l)
    = (m ((c : Thread nD τ).loc main_arg2) : S32x64.Idx → EReal) (ix2 k l) := by
  refine Eq.trans ?_ (congrFun (V_main_arg2 m c) (ix2 k l : S32x64.Idx))
  show (V m c main_arg2 : S32x64.Idx → EReal) ((win0_3.rect (point b)).emb _) = (V m c main_arg2 : S32x64.Idx → EReal) _
  refine congrArg (V m c main_arg2 : S32x64.Idx → EReal) ?_
  funext a
  apply Fin.ext
  rw [Pipeline.Window.rect_emb_val win0_3 (point b), index3]
  match a with
  | ⟨0, _⟩ => show 0 * 32 + k.val = k.val; omega
  | ⟨1, _⟩ => show 0 * 64 + l.val = l.val; omega

theorem block4 (b : Fin 16) (k : Fin 64) (l : Fin 128) : (iblk m c 4 (point b) : S64x128.Idx → EReal) (ix2 k l)
    = (m ((c : Thread nD τ).loc main_arg3) : S64x128.Idx → EReal) (ix2 k l) := by
  refine Eq.trans ?_ (congrFun (V_main_arg3 m c) (ix2 k l : S64x128.Idx))
  show (V m c main_arg3 : S64x128.Idx → EReal) ((win0_4.rect (point b)).emb _) = (V m c main_arg3 : S64x128.Idx → EReal) _
  refine congrArg (V m c main_arg3 : S64x128.Idx → EReal) ?_
  funext a
  apply Fin.ext
  rw [Pipeline.Window.rect_emb_val win0_4 (point b), index4]
  match a with
  | ⟨0, _⟩ => show 0 * 64 + k.val = k.val; omega
  | ⟨1, _⟩ => show 0 * 128 + l.val = l.val; omega

theorem block5 (b : Fin 16) (k : Fin 128) (l : Fin 48) : (iblk m c 5 (point b) : S128x48.Idx → EReal) (ix2 k l)
    = (m ((c : Thread nD τ).loc main_arg4) : S128x48.Idx → EReal) (ix2 k l) := by
  refine Eq.trans ?_ (congrFun (V_main_arg4 m c) (ix2 k l : S128x48.Idx))
  show (V m c main_arg4 : S128x48.Idx → EReal) ((win0_5.rect (point b)).emb _) = (V m c main_arg4 : S128x48.Idx → EReal) _
  refine congrArg (V m c main_arg4 : S128x48.Idx → EReal) ?_
  funext a
  apply Fin.ext
  rw [Pipeline.Window.rect_emb_val win0_5 (point b), index5]
  match a with
  | ⟨0, _⟩ => show 0 * 128 + k.val = k.val; omega
  | ⟨1, _⟩ => show 0 * 48 + l.val = l.val; omega

theorem block6 (b : Fin 16) (l : Fin 48) : (iblk m c 6 (point b) : S1x48.Idx → EReal) (ix2 (0 : Fin 1) l)
    = (m ((c : Thread nD τ).loc main_arg5) : S48.Idx → EReal) (ix1 l) := by
  have ht : (V m c main_v1 : S1x48.Idx → EReal) (ix2 (0 : Fin 1) l)
      = (m ((c : Thread nD τ).loc main_arg5) : S48.Idx → EReal) (ix1 l) := by
    rw [V_bias]
    exact shapeCast_apply _ shapeCasts_S48_S1x48 (ix2 (0 : Fin 1) l) (ix1 l) (by
      rw [Shape.rowMajor_val_two, Shape.rowMajor_val_one]
      show l.val = 0 * 48 + l.val
      omega)
  refine Eq.trans ?_ ht
  show (V m c main_v1 : S1x48.Idx → EReal) ((win0_6.rect (point b)).emb _) = (V m c main_v1 : S1x48.Idx → EReal) _
  refine congrArg (V m c main_v1 : S1x48.Idx → EReal) ?_
  funext a
  apply Fin.ext
  rw [Pipeline.Window.rect_emb_val win0_6 (point b), index6]
  match a with
  | ⟨0, _⟩ => rfl
  | ⟨1, _⟩ => show 0 * 48 + l.val = l.val; omega

/-- Element `(0, 0, l)` of grid point `b`'s output block lies at `(b, 0, l)` of the array. -/
theorem place7 (b : Fin 16) (l : Fin 48) :
    (((cfg0.win 7).blk (point b)).view.emb (ix3 (0 : Fin 1) (0 : Fin 1) l : S1x1x48.Idx) : S16x1x48.Idx)
      = ix3 b (0 : Fin 1) l := by
  show (win0_7.rect (point b)).emb _ = _
  funext a
  apply Fin.ext
  rw [Pipeline.Window.rect_emb_val win0_7 (point b), index7]
  match a with
  | ⟨0, _⟩ => show b.val * 1 + 0 = b.val; omega
  | ⟨1, _⟩ => rfl
  | ⟨2, _⟩ => show 0 * 48 + l.val = l.val; omega

/-- **The kernel's result**: for real points, at every batch entry, that entry's keypoint coordinates. -/
theorem result_apply (x : Fin 16 → Fin 1024 → Fin 3 → ℝ)
    (hx : ∀ b i k, (m ((c : Thread nD τ).loc main_arg0) : S16x3x1024.Idx → EReal) (ix3 b k i) = (x b i k : EReal))
    (b : Fin 16) (j : Fin 48) :
    ((dats m 0 c).arrAt 7 cfg0.N : S16x1x48.Idx → EReal) (ix3 b (0 : Fin 1) j)
      = keypoints (fun i k => (m ((c : Thread nD τ).loc main_arg0) : S16x3x1024.Idx → EReal) (ix3 b k i))
          (fun k l => (m ((c : Thread nD τ).loc main_arg1) : S6x32.Idx → EReal) (ix2 k l))
          (fun k l => (m ((c : Thread nD τ).loc main_arg2) : S32x64.Idx → EReal) (ix2 k l))
          (fun k l => (m ((c : Thread nD τ).loc main_arg3) : S64x128.Idx → EReal) (ix2 k l))
          (fun k l => (m ((c : Thread nD τ).loc main_arg4) : S128x48.Idx → EReal) (ix2 k l))
          (fun l => (m ((c : Thread nD τ).loc main_arg5) : S48.Idx → EReal) (ix1 l)) j := by
  have e := congrFun (Cert.KernelIdeal.Value.blocks7 m c (point b) (flush7 _)) (ix3 (0 : Fin 1) (0 : Fin 1) j : S1x1x48.Idx)
  have e1 : ((dats m 0 c).arrAt 7 cfg0.N : S16x1x48.Idx → EReal)
      (((cfg0.win 7).blk (point b)).view.emb (ix3 (0 : Fin 1) (0 : Fin 1) j : S1x1x48.Idx))
      = out0_7 (F := Ideal) (iblk m c 0 (point b)) (iblk m c 1 (point b)) (iblk m c 2 (point b)) (iblk m c 3 (point b))
          (iblk m c 4 (point b)) (iblk m c 5 (point b)) (iblk m c 6 (point b)) (ix3 (0 : Fin 1) (0 : Fin 1) j) := by
    refine Eq.trans ?_ (e.trans ?_)
    · rfl
    · rw [Cert.KernelIdeal.Value.flushed7]
      rfl
  rw [place7] at e1
  refine e1.trans ?_
  refine (Block.out_apply (iblk m c 0 (point b)) (iblk m c 1 (point b))
    (fun i k => (m ((c : Thread nD τ).loc main_arg0) : S16x3x1024.Idx → EReal) (ix3 b k i))
    (fun i k => block0 m c b k i) (fun i k => block1 m c b i k) (x b) (hx b) (iblk m c 2 (point b)) (iblk m c 3 (point b))
    (iblk m c 4 (point b)) (iblk m c 5 (point b)) (iblk m c 6 (point b)) j).trans ?_
  have h2 := fun k l => block2 m c b k l
  have h3 := fun k l => block3 m c b k l
  have h4 := fun k l => block4 m c b k l
  have h5 := fun k l => block5 m c b k l
  have h6 := fun l => block6 m c b l
  generalize (iblk m c 2 (point b) : S6x32.Idx → EReal) = y2 at h2 ⊢
  generalize (iblk m c 3 (point b) : S32x64.Idx → EReal) = y3 at h3 ⊢
  generalize (iblk m c 4 (point b) : S64x128.Idx → EReal) = y4 at h4 ⊢
  generalize (iblk m c 5 (point b) : S128x48.Idx → EReal) = y5 at h5 ⊢
  generalize (iblk m c 6 (point b) : S1x48.Idx → EReal) = y6 at h6 ⊢
  simp only [h2, h3, h4, h5, h6]

end Cert.Proof.Array

end
-- ==== Proof.HostOps.lean ====
/- Host operations of the reference read at an index: the greatest sixteen of negated values by position, rows gathered by
   number within each batch entry, and three products of stacked matrices. -/
module

public import proofs.«01_k».proof.Proof.Gen.ReferenceIdeal.Run
public import proofs.«01_k».proof.Proof.Spec
public import Idealize.ShloMosaic.Lib.ValueIdx
public import Idealize.ShloMosaic.Lib.IdealHost
public import Idealize.ShloMosaic.Lib.StackMember

@[expose] public section

noncomputable section

namespace Cert.Proof.HostOps

open Idealize.ShloMosaic Idealize.ShloMosaic.ValueIdx Cert.Proof.Select

/-- The position of the `m`-th greatest of a row's negated values is the row's `m`-th position in ascending order. -/
theorem topK_apply {B M N n : ℕ} (D : FVec Ideal ⟨3, ![B, M, N]⟩ .f32) (hn : n ≤ N)
    (h : (⟨3, ![B, M, N]⟩ : Shape).Slices (fun _ => 0) ⟨3, ![B, M, n]⟩) (b : Fin B) (i : Fin M) (m : Fin n) :
    (Host.topK ⟨3, ![B, M, n]⟩ 2 (FloatOps.cmpfTotal (F := Ideal) (φ := .f32) .gt) (Host.negf D) h).2 (ix3 b i m)
      = BitVec.ofNat 32 (order (fun j => D (ix3 b i j)) (m.castLE hn)).val := by
  have ha : ∀ k : Fin N, (ix3 b i (m.castLE hn) : (⟨3, ![B, M, N]⟩ : Shape).Idx).along (2 : Fin 3) k = ix3 b i k := fun k => by
    funext a
    match a with
    | ⟨0, _⟩ => rfl
    | ⟨1, _⟩ => rfl
    | ⟨2, _⟩ => rfl
  unfold Host.topK
  dsimp only
  refine (extractStridedSlice_apply (fun _ => 0) _ h (ix3 b i m) (ix3 b i (m.castLE hn)) fun a => ?_).trans ?_
  · match a with
    | ⟨0, _⟩ => exact (Nat.zero_add _).symm
    | ⟨1, _⟩ => exact (Nat.zero_add _).symm
    | ⟨2, _⟩ => exact (Nat.zero_add _).symm
  · have e : (fun k k' : Fin N => Ideal.cmpTotal .gt
        (-(D ((ix3 b i (m.castLE hn) : (⟨3, ![B, M, N]⟩ : Shape).Idx).along (2 : Fin 3) k)))
        (-(D ((ix3 b i (m.castLE hn) : (⟨3, ![B, M, N]⟩ : Shape).Idx).along (2 : Fin 3) k'))) == 1#1)
        = fun k k' => Ideal.cmpTotal .gt (-(D (ix3 b i k))) (-(D (ix3 b i k'))) == 1#1 := by
      funext k k'
      rw [ha, ha]
    show BitVec.ofNat 32 (((ix3 b i (m.castLE hn) : (⟨3, ![B, M, N]⟩ : Shape).Idx).along (2 : Fin 3) (sortedFrom
      (fun k k' : Fin N => Ideal.cmpTotal .gt
        (-(D ((ix3 b i (m.castLE hn) : (⟨3, ![B, M, N]⟩ : Shape).Idx).along (2 : Fin 3) k)))
        (-(D ((ix3 b i (m.castLE hn) : (⟨3, ![B, M, N]⟩ : Shape).Idx).along (2 : Fin 3) k'))) == 1#1)
      (m.castLE hn))) (2 : Fin 3)).val = _
    rw [e]
    exact congrArg (fun j : (⟨3, ![B, M, N]⟩ : Shape).Idx => BitVec.ofNat 32 (j (2 : Fin 3)).val)
      (ha (order (fun j => D (ix3 b i j)) (m.castLE hn)))

/-- Dimension numbers that gather whole rows of a batch entry's matrix by row number. -/
abbrev rowDims (B M n D : ℕ)
    (wf : GatherDims.WF ⟨3, ![B, M, D]⟩ ⟨4, ![B, M, n, 1]⟩ ⟨4, ![B, M, n, D]⟩ [3] [1] [0] [1] [0] 3 ![1, 1, D]) :
    GatherDims ⟨3, ![B, M, D]⟩ ⟨4, ![B, M, n, 1]⟩ ⟨4, ![B, M, n, D]⟩ where
  offsetDims := [3]
  collapsedSliceDims := [1]
  operandBatchingDims := [0]
  startIndicesBatchingDims := [0]
  startIndexMap := [1]
  indexVectorDim := 3
  sliceSizes := ![1, 1, D]
  wf := wf

/-- Rows gathered by number: result element `(b, i, m, k)` is the operand at row `idx[b, i, m, 0]`, clamped, of entry `b`. -/
theorem gather_rows_apply {α : Type} {B M n D w : ℕ} (hM : 0 < M)
    (wf : GatherDims.WF ⟨3, ![B, M, D]⟩ ⟨4, ![B, M, n, 1]⟩ ⟨4, ![B, M, n, D]⟩ [3] [1] [0] [1] [0] 3 ![1, 1, D])
    (x : (⟨3, ![B, M, D]⟩ : Shape).Idx → α) (idx : IVec ⟨4, ![B, M, n, 1]⟩ w) (b : Fin B) (i : Fin M) (m : Fin n) (k : Fin D) :
    Host.gather (rowDims B M n D wf) x idx (ix4 b i m k)
      = x (ix3 b ⟨min (idx (ix4 b i m (0 : Fin 1))).toInt.toNat (M - 1), by omega⟩ k) := by
  unfold Host.gather
  congr 1
  funext a
  refine Fin.ext ?_
  show (rowDims B M n D wf).start (ix4 b i m k) idx a + (rowDims B M n D wf).batchCoord (ix4 b i m k) a
    + (rowDims B M n D wf).offCoord (ix4 b i m k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowDims B M n D wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B M n D wf).startIndexMap from List.mem_singleton.mpr rfl)]
    have hsi : (rowDims B M n D wf).siIdx (ix4 b i m k) ⟨List.idxOf (1 : Fin 3) (rowDims B M n D wf).startIndexMap,
        List.idxOf_lt_length_iff.2 (List.mem_singleton.mpr rfl)⟩ = ix4 b i m (0 : Fin 1) := by
      funext c; refine Fin.ext ?_
      match c with
      | ⟨0, _⟩ => rfl
      | ⟨1, _⟩ => rfl
      | ⟨2, _⟩ => rfl
      | ⟨3, _⟩ => rfl
    rw [hsi]
    rfl
  · rw [GatherDims.batchCoord_eq_zero _ _ _ (fun h => by simp at h)]
    unfold GatherDims.start
    rw [dif_neg (show (2 : Fin 3) ∉ (rowDims B M n D wf).startIndexMap from fun h => by simp at h)]
    simp only [Nat.zero_add]
    unfold GatherDims.offCoord
    rw [dif_pos (show (2 : Fin 3) ∈ (rowDims B M n D wf).sKept from
      (GatherDims.mem_sKept _ _).mpr ⟨fun h => by simp at h, fun h => by simp at h⟩)]
    rfl

/-- A stack of matrices times one matrix, at an index. -/
theorem product_apply {B M K N : ℕ} (w : DotDims.WF ⟨3, ![B, M, K]⟩ ⟨2, ![K, N]⟩ ⟨3, ![B, M, N]⟩ [2] [0] [0, 1] [1] [] [])
    (prec : Option ContractPrecision) (A : FVec Ideal ⟨3, ![B, M, K]⟩ .f32) (W : FVec Ideal ⟨2, ![K, N]⟩ .f32)
    (b : Fin B) (i : Fin M) (j : Fin N) :
    Host.dotGeneral (⟨[2], [0], [0, 1], [1], [], [], w⟩ : DotDims _ _ _) prec A W (ix3 b i j)
      = ∑ k : Fin K, A (ix3 b i k) * W (ix2 k j) := by
  show FloatOps.dotGeneral _ prec _ A W (ix3 b i j) = _
  rw [Ideal.dotGeneral_apply,
    ← Equiv.sum_comp (contrEquiv1 (⟨[2], [0], [0, 1], [1], [], [], w⟩ : DotDims _ _ _) K rfl rfl).symm]
  refine Finset.sum_congr rfl fun k _ => ?_
  have hk := contrEquiv1_symm_val
    (⟨[2], [0], [0, 1], [1], [], [], w⟩ : DotDims ⟨3, ![B, M, K]⟩ ⟨2, ![K, N]⟩ ⟨3, ![B, M, N]⟩) K rfl rfl k
  refine congrArg₂ (fun a b : EReal => a * b) (congrArg A ?_) (congrArg W ?_)
  · funext ax; apply Fin.ext
    match ax with
    | ⟨0, _⟩ => simp [DotDims.lhsIdx]; rfl
    | ⟨1, _⟩ => simp [DotDims.lhsIdx]; rfl
    | ⟨2, _⟩ => simp [DotDims.lhsIdx]; exact hk
  · funext ax; apply Fin.ext
    match ax with
    | ⟨0, _⟩ => simp [DotDims.rhsIdx]; exact hk
    | ⟨1, _⟩ => simp [DotDims.rhsIdx]; rfl

/-- Products of rows with rows within each entry of a stack, at an index. -/
theorem gram_apply {B M K N : ℕ} (w : DotDims.WF ⟨3, ![B, M, K]⟩ ⟨3, ![B, N, K]⟩ ⟨3, ![B, M, N]⟩ [2] [2] [1] [1] [0] [0])
    (prec : Option ContractPrecision) (A : FVec Ideal ⟨3, ![B, M, K]⟩ .f32) (C : FVec Ideal ⟨3, ![B, N, K]⟩ .f32)
    (b : Fin B) (i : Fin M) (j : Fin N) :
    Host.dotGeneral (⟨[2], [2], [1], [1], [0], [0], w⟩ : DotDims _ _ _) prec A C (ix3 b i j)
      = ∑ k : Fin K, A (ix3 b i k) * C (ix3 b j k) := by
  show FloatOps.dotGeneral _ prec _ A C (ix3 b i j) = _
  rw [Ideal.dotGeneral_apply,
    ← Equiv.sum_comp (contrEquiv1 (⟨[2], [2], [1], [1], [0], [0], w⟩ : DotDims _ _ _) K rfl rfl).symm]
  refine Finset.sum_congr rfl fun k _ => ?_
  have hk := contrEquiv1_symm_val
    (⟨[2], [2], [1], [1], [0], [0], w⟩ : DotDims ⟨3, ![B, M, K]⟩ ⟨3, ![B, N, K]⟩ ⟨3, ![B, M, N]⟩) K rfl rfl k
  refine congrArg₂ (fun a b : EReal => a * b) (congrArg A ?_) (congrArg C ?_)
  · funext ax; apply Fin.ext
    match ax with
    | ⟨0, _⟩ => simp [DotDims.lhsIdx]; rfl
    | ⟨1, _⟩ => simp [DotDims.lhsIdx]; rfl
    | ⟨2, _⟩ => simp [DotDims.lhsIdx]; exact hk
  · funext ax; apply Fin.ext
    match ax with
    | ⟨0, _⟩ => simp [DotDims.rhsIdx]; rfl
    | ⟨1, _⟩ => simp [DotDims.rhsIdx]; rfl
    | ⟨2, _⟩ => simp [DotDims.rhsIdx]; exact hk

end Cert.Proof.HostOps

end
-- ==== Proof.Reference.lean ====
/- The reference's result over extended reals, stage by stage: each batch entry's row is that entry's keypoint coordinates. -/
module

public import proofs.«01_k».proof.Proof.HostOps

@[expose] public section

noncomputable section

namespace Cert.Proof.Reference

open Cert.ReferenceIdeal Cert.ReferenceIdeal.Gen Idealize.ShloMosaic Idealize.ShloMosaic.TcCoe Idealize.ShloMosaic.ValueIdx
  Cert.Proof.Select Cert.Proof.Spec

/-- The squared distances. -/
def distances (P : FVec Ideal S16x1024x3 .f32) : FVec Ideal S16x1024x1024 .f32 :=
  subf (addf
    (broadcastInDim S16x1024x1024 ![0, 1, 2] bcast_S16x1024x1_S16x1024x1024_0_1_2
      (broadcastInDim S16x1024x1 ![0, 1] bcast_S16x1024_S16x1024x1_0_1
        (Host.reduceAdd (mulf P P) (constant S_ .f32 0x00000000#32) reducesTo_S16x1024x3_S16x1024_d2 h_S_)))
    (broadcastInDim S16x1024x1024 ![0, 1, 2] bcast_S16x1x1024_S16x1024x1024_0_1_2
      (broadcastInDim S16x1x1024 ![0, 2] bcast_S16x1024_S16x1x1024_0_2
        (Host.reduceAdd (mulf P P) (constant S_ .f32 0x00000000#32) reducesTo_S16x1024x3_S16x1024_d2 h_S_))))
    (mulf (broadcastInDim S16x1024x1024 ![] bcast_S_S16x1024x1024 (constant S_ .f32 0x40000000#32))
      (Host.dotGeneral dot_S16x1024x3_S16x1024x3_S16x1024x1024_2_2_1_1_0_0 none P P))

/-- The sixteen nearest points' numbers. -/
def numbers (D : FVec Ideal S16x1024x1024 .f32) : IVec S16x1024x16 32 :=
  (Host.topK S16x1024x16 2 (FloatOps.cmpfTotal .gt) (Host.negf D) sliceFits_S16x1024x1024_S16x1024x16).2

/-- Numbers counted from the end, where negative, brought to the front. -/
def wrapped (I : IVec S16x1024x16 32) : IVec S16x1024x16 32 :=
  select (cmpi .slt I (broadcastInDim S16x1024x16 ![] bcast_S_S16x1024x16 (constantI S_ 32 0#32)))
    (addi I (broadcastInDim S16x1024x16 ![] bcast_S_S16x1024x16 (constantI S_ 32 1024#32))) I

/-- The summed offsets from the numbered points. -/
def offsets (P : FVec Ideal S16x1024x3 .f32) (J : IVec S16x1024x16 32) : FVec Ideal S16x1024x3 .f32 :=
  Host.reduceAdd (subf
    (broadcastInDim S16x1024x16x3 ![0, 1, 2, 3] bcast_S16x1024x1x3_S16x1024x16x3_0_1_2_3
      (broadcastInDim S16x1024x1x3 ![0, 1, 3] bcast_S16x1024x3_S16x1024x1x3_0_1_3 P))
    (Host.gather gather_S16x1024x3_S16x1024x16x1_S16x1024x16x3_3_1_0_0_1_3_113 P
      (broadcastInDim S16x1024x16x1 ![0, 1, 2] bcast_S16x1024x16_S16x1024x16x1_0_1_2 J)))
    (constant S_ .f32 0x00000000#32) reducesTo_S16x1024x16x3_S16x1024x3_d2 h_S_

/-- Coordinates beside summed offsets. -/
def features (P O : FVec Ideal S16x1024x3 .f32) : FVec Ideal S16x1024x6 .f32 :=
  concatenate S16x1024x6 2 [⟨S16x1024x3, P⟩, ⟨S16x1024x3, O⟩] concatenates_S16x1024x3_S16x1024x3_S16x1024x6_d2

/-- The first layer. -/
def layer1 (f : FVec Ideal S16x1024x6 .f32) (w : FVec Ideal S6x32 .f32) : FVec Ideal S16x1024x32 .f32 :=
  maximumf (Host.dotGeneral dot_S16x1024x6_S6x32_S16x1024x32_2_0_01_1_n_n none f w)
    (broadcastInDim S16x1024x32 ![] bcast_S_S16x1024x32 (constant S_ .f32 0x00000000#32))

/-- The second layer. -/
def layer2 (f : FVec Ideal S16x1024x32 .f32) (w : FVec Ideal S32x64 .f32) : FVec Ideal S16x1024x64 .f32 :=
  maximumf (Host.dotGeneral dot_S16x1024x32_S32x64_S16x1024x64_2_0_01_1_n_n none f w)
    (broadcastInDim S16x1024x64 ![] bcast_S_S16x1024x64 (constant S_ .f32 0x00000000#32))

/-- The third layer. -/
def layer3 (f : FVec Ideal S16x1024x64 .f32) (w : FVec Ideal S64x128 .f32) : FVec Ideal S16x1024x128 .f32 :=
  maximumf (Host.dotGeneral dot_S16x1024x64_S64x128_S16x1024x128_2_0_01_1_n_n none f w)
    (broadcastInDim S16x1024x128 ![] bcast_S_S16x1024x128 (constant S_ .f32 0x00000000#32))

/-- The greatest value of each feature over the points. -/
def greatest (f : FVec Ideal S16x1024x128 .f32) : FVec Ideal S16x128 .f32 :=
  Host.reduce FloatOps.maximumf f (constant S_ .f32 0xFF800000#32) reducesTo_S16x1024x128_S16x128_d1 h_S_

/-- The last affine map. -/
def last (f : FVec Ideal S16x128 .f32) (w : FVec Ideal S128x48 .f32) (b : FVec Ideal S48 .f32) : FVec Ideal S16x1x48 .f32 :=
  shapeCast _ (addf (Host.dotGeneral dot_S16x128_S128x48_S16x48_1_0_0_1_n_n none f w)
    (broadcastInDim S16x48 ![0, 1] bcast_S1x48_S16x48_0_1 (broadcastInDim S1x48 ![1] bcast_S48_S1x48_1 b)))
    shapeCasts_S16x48_S16x1x48

/-- The points as rows. -/
def points (A : FVec Ideal S16x3x1024 .f32) : FVec Ideal S16x1024x3 .f32 :=
  transpose S16x1024x3 [0, 2, 1] A transposes_S16x3x1024_S16x1024x3_0_2_1

set_option maxRecDepth 8192 in
/-- The reference's result is its stages in order. -/
theorem result_eq (m : (ℓ : Loc nD τ sig) → Buf (Elt Ideal) ℓ) (c : Dev nD) :
    Cert.ReferenceIdeal.Value.res_main_v36 m c
      = last (greatest (layer3 (layer2 (layer1 (features (points (m ((c.tc : Thread nD τ).loc main_arg0)))
          (offsets (points (m ((c.tc : Thread nD τ).loc main_arg0)))
            (wrapped (numbers (distances (points (m ((c.tc : Thread nD τ).loc main_arg0))))))))
          (m ((c.tc : Thread nD τ).loc main_arg1))) (m ((c.tc : Thread nD τ).loc main_arg2)))
          (m ((c.tc : Thread nD τ).loc main_arg3)))) (m ((c.tc : Thread nD τ).loc main_arg4))
          (m ((c.tc : Thread nD τ).loc main_arg5)) := rfl

theorem points_apply (A : FVec Ideal S16x3x1024 .f32) (b : Fin 16) (i : Fin 1024) (k : Fin 3) :
    points A (ix3 b i k) = A (ix3 b k i) :=
  transpose_apply [0, 2, 1] A transposes_S16x3x1024_S16x1024x3_0_2_1 (ix3 b i k) (ix3 b k i) fun a => by
    match a with
    | ⟨0, _⟩ => rfl
    | ⟨1, _⟩ => rfl
    | ⟨2, _⟩ => rfl

theorem reduces_d2 : S16x1024x3.Reduces [2] S16x1024 := by decide
theorem reduces_near : S16x1024x16x3.Reduces [2] S16x1024x3 := by decide
theorem reduces_points : S16x1024x128.Reduces [1] S16x128 := by decide

theorem ofBits_two : Ideal.ofBits .f32 0x40000000#32 = 2 := by
  simp [Ideal.ofBits, Ideal.ieee, -EReal.coe_mul]; norm_num; rfl
theorem ofBits_neg_inf : Ideal.ofBits .f32 0xFF800000#32 = ⊥ := by simp [Ideal.ofBits, Ideal.ieee]

/-- The sum of a point's squared coordinates. -/
theorem squares_apply (P : FVec Ideal S16x1024x3 .f32) (b : Fin 16) (i : Fin 1024) :
    Host.reduceAdd (mulf P P) (constant S_ .f32 0x00000000#32) reducesTo_S16x1024x3_S16x1024_d2 h_S_ (ix2 b i)
      = ∑ k : Fin 3, P (ix3 b i k) * P (ix3 b i k) := by
  rw [hostReduceAdd_apply]
  refine (Ideal.hostReduceAdd_single _ reduces_d2 (mulf P P) _ (ix2 b i)).trans ?_
  show Ideal.ofBits .f32 0x00000000#32 + _ = _
  rw [Ideal.ofBits_zero_f32, zero_add]
  refine Finset.sum_congr rfl fun (k : Fin 3) _ => ?_
  have e : reduces_d2.lift (ix2 b i) k = ix3 b i k := by
    funext a
    match a with
    | ⟨0, _⟩ => rfl
    | ⟨1, _⟩ => rfl
    | ⟨2, _⟩ => rfl
  exact congrArg (mulf P P) e

/-- The distances of one batch entry. -/
theorem distances_apply (P : FVec Ideal S16x1024x3 .f32) (b : Fin 16) (i j : Fin 1024) :
    distances P (ix3 b i j) = dist (fun i k => P (ix3 b i k)) i j := by
  have e1 : ∀ s : FVec Ideal S16x1024 .f32, broadcastInDim S16x1024x1024 ![0, 1, 2] bcast_S16x1024x1_S16x1024x1024_0_1_2
      (broadcastInDim S16x1024x1 ![0, 1] bcast_S16x1024_S16x1024x1_0_1 s) (ix3 b i j) = s (ix2 b i) := fun s =>
    (broadcastInDim_apply _ _ _ (ix3 b i j) (ix3 b i (0 : Fin 1)) fun a => by
      match a with
      | ⟨0, _⟩ => rfl
      | ⟨1, _⟩ => rfl
      | ⟨2, _⟩ => rfl).trans
    (broadcastInDim_apply _ _ _ (ix3 b i (0 : Fin 1)) (ix2 b i) fun a => by
      match a with
      | ⟨0, _⟩ => rfl
      | ⟨1, _⟩ => rfl)
  have e2 : ∀ s : FVec Ideal S16x1024 .f32, broadcastInDim S16x1024x1024 ![0, 1, 2] bcast_S16x1x1024_S16x1024x1024_0_1_2
      (broadcastInDim S16x1x1024 ![0, 2] bcast_S16x1024_S16x1x1024_0_2 s) (ix3 b i j) = s (ix2 b j) := fun s =>
    (broadcastInDim_apply _ _ _ (ix3 b i j) (ix3 b (0 : Fin 1) j) fun a => by
      match a with
      | ⟨0, _⟩ => rfl
      | ⟨1, _⟩ => rfl
      | ⟨2, _⟩ => rfl).trans
    (broadcastInDim_apply _ _ _ (ix3 b (0 : Fin 1) j) (ix2 b j) fun a => by
      match a with
      | ⟨0, _⟩ => rfl
      | ⟨1, _⟩ => rfl)
  have e3 := HostOps.gram_apply dot_S16x1024x3_S16x1024x3_S16x1024x1024_2_2_1_1_0_0.wf none P P b i j
  have rest : ∀ p q u r : FVec Ideal S16x1024x1024 .f32, subf (addf p q) (mulf u r) (ix3 b i j)
      = p (ix3 b i j) + q (ix3 b i j) - u (ix3 b i j) * r (ix3 b i j) := fun _ _ _ _ => rfl
  refine (rest _ _ _ _).trans ?_
  unfold Spec.dist
  exact congrArg₂ (fun a b : EReal => a - b)
    (congrArg₂ (fun a b : EReal => a + b) ((e1 _).trans (squares_apply P b i)) ((e2 _).trans (squares_apply P b j)))
    (congrArg₂ (fun a b : EReal => a * b) ((broadcastInDim_scalar_apply _ _ _).trans ofBits_two) e3)

/-- A point's `m`-th nearest number. -/
theorem numbers_apply (D : FVec Ideal S16x1024x1024 .f32) (b : Fin 16) (i : Fin 1024) (m : Fin 16) :
    numbers D (ix3 b i m)
      = BitVec.ofNat 32 (order (fun j => D (ix3 b i j)) (m.castLE (by decide : 16 ≤ 1024))).val :=
  HostOps.topK_apply D (by decide) sliceFits_S16x1024x1024_S16x1024x16 b i m

/-- A number below 1024 stays as it is. -/
theorem wrapped_apply (I : IVec S16x1024x16 32) (b : Fin 16) (i : Fin 1024) (m : Fin 16) (n : Fin 1024)
    (h : I (ix3 b i m) = BitVec.ofNat 32 n.val) : wrapped I (ix3 b i m) = BitVec.ofNat 32 n.val := by
  have hz : broadcastInDim S16x1024x16 ![] bcast_S_S16x1024x16 (constantI S_ 32 0#32) (ix3 b i m) = 0#32 :=
    broadcastInDim_scalar_apply _ _ _
  have hn : (BitVec.ofNat 32 n.val).toInt = n.val := by
    have := n.isLt
    rw [BitVec.toInt_eq_toNat_of_lt (by rw [BitVec.toNat_ofNat]; omega), BitVec.toNat_ofNat]
    omega
  show Scalar.select (IntOp.cmpi .slt (I (ix3 b i m)) (broadcastInDim S16x1024x16 ![] bcast_S_S16x1024x16
    (constantI S_ 32 0#32) (ix3 b i m))) _ (I (ix3 b i m)) = _
  rw [hz, h]
  have hs : IntOp.cmpi .slt (BitVec.ofNat 32 n.val) 0#32 = 0#1 := by
    show BitVec.ofBool ((BitVec.ofNat 32 n.val).slt 0#32) = 0#1
    have : (BitVec.ofNat 32 n.val).slt 0#32 = false := by
      rw [BitVec.slt, hn]; simp
    rw [this]; rfl
  rw [hs]; rfl

/-- The summed offsets of one batch entry, for numbers that name points. -/
theorem offsets_apply (P : FVec Ideal S16x1024x3 .f32) (J : IVec S16x1024x16 32) (o : Fin 16 → Fin 1024)
    (b : Fin 16) (i : Fin 1024) (k : Fin 3) (h : ∀ m, J (ix3 b i m) = BitVec.ofNat 32 (o m).val) :
    offsets P J (ix3 b i k) = ∑ m : Fin 16, (P (ix3 b i k) - P (ix3 b (o m) k)) := by
  unfold offsets
  rw [hostReduceAdd_apply]
  refine (Ideal.hostReduceAdd_single _ reduces_near _ _ (ix3 b i k)).trans ?_
  show Ideal.ofBits .f32 0x00000000#32 + _ = _
  rw [Ideal.ofBits_zero_f32, zero_add]
  refine Finset.sum_congr rfl fun (m : Fin 16) _ => ?_
  have e : reduces_near.lift (ix3 b i k) m = ix4 b i m k := by
    funext a
    match a with
    | ⟨0, _⟩ => rfl
    | ⟨1, _⟩ => rfl
    | ⟨2, _⟩ => rfl
    | ⟨3, _⟩ => rfl
  have e1 : broadcastInDim S16x1024x16x3 ![0, 1, 2, 3] bcast_S16x1024x1x3_S16x1024x16x3_0_1_2_3
      (broadcastInDim S16x1024x1x3 ![0, 1, 3] bcast_S16x1024x3_S16x1024x1x3_0_1_3 P) (ix4 b i m k) = P (ix3 b i k) :=
    (broadcastInDim_apply _ _ _ (ix4 b i m k) (ix4 b i (0 : Fin 1) k) fun a => by
      match a with
      | ⟨0, _⟩ => rfl
      | ⟨1, _⟩ => rfl
      | ⟨2, _⟩ => rfl
      | ⟨3, _⟩ => rfl).trans
    (broadcastInDim_apply _ _ _ (ix4 b i (0 : Fin 1) k) (ix3 b i k) fun a => by
      match a with
      | ⟨0, _⟩ => rfl
      | ⟨1, _⟩ => rfl
      | ⟨2, _⟩ => rfl)
  have e2 : broadcastInDim S16x1024x16x1 ![0, 1, 2] bcast_S16x1024x16_S16x1024x16x1_0_1_2 J (ix4 b i m (0 : Fin 1))
      = BitVec.ofNat 32 (o m).val :=
    (broadcastInDim_apply _ _ _ (ix4 b i m (0 : Fin 1)) (ix3 b i m) fun a => by
      match a with
      | ⟨0, _⟩ => rfl
      | ⟨1, _⟩ => rfl
      | ⟨2, _⟩ => rfl).trans (h m)
  have hn : (BitVec.ofNat 32 (o m).val).toInt.toNat = (o m).val := by
    have := (o m).isLt
    rw [BitVec.toInt_eq_toNat_of_lt (by rw [BitVec.toNat_ofNat]; omega), BitVec.toNat_ofNat]
    omega
  have e3 := HostOps.gather_rows_apply (by decide : 0 < 1024) gather_S16x1024x3_S16x1024x16x1_S16x1024x16x3_3_1_0_0_1_3_113.wf
    P (broadcastInDim S16x1024x16x1 ![0, 1, 2] bcast_S16x1024x16_S16x1024x16x1_0_1_2 J) b i m k
  have e4 : (⟨min (broadcastInDim S16x1024x16x1 ![0, 1, 2] bcast_S16x1024x16_S16x1024x16x1_0_1_2 J
      (ix4 b i m (0 : Fin 1))).toInt.toNat (1024 - 1), by omega⟩ : Fin 1024) = o m := by
    apply Fin.ext
    have := (o m).isLt
    show min _ _ = _
    rw [e2, hn]; omega
  refine (congrArg _ e).trans ?_
  exact congrArg₂ (fun a b : EReal => a - b) e1 (e3.trans (congrArg (fun n => P (ix3 b n k)) e4))

/-- The features of one batch entry. -/
theorem features_apply (P : FVec Ideal S16x1024x3 .f32) (b : Fin 16) (i : Fin 1024) (c : Fin 6) :
    features P (offsets P (wrapped (numbers (distances P)))) (ix3 b i c) = feature (fun i k => P (ix3 b i k)) i c := by
  unfold feature
  split
  · next h =>
    refine concatenate_pair_apply_left (t := S16x1024x6) 2 _ _ concatenates_S16x1024x3_S16x1024x3_S16x1024x6_d2 (ix3 b i c) rfl
      (ix3 b i ⟨c.val, h⟩) fun a => ?_
    match a with
    | ⟨0, _⟩ => rfl
    | ⟨1, _⟩ => rfl
    | ⟨2, _⟩ => rfl
  · next h =>
    have hk : c.val - 3 < 3 := by omega
    refine (concatenate_pair_apply_right (t := S16x1024x6) 2 _ _ concatenates_S16x1024x3_S16x1024x3_S16x1024x6_d2 (ix3 b i c)
      rfl rfl (ix3 b i ⟨c.val - 3, hk⟩) (fun a ha => ?_) ?_).trans ?_
    · match a, ha with
      | ⟨0, _⟩, _ => rfl
      | ⟨1, _⟩, _ => rfl
      | ⟨2, _⟩, ha => exact absurd rfl ha
    · show c.val - 3 + 3 = c.val
      omega
    · refine offsets_apply P _ (near (fun i k => P (ix3 b i k)) i) b i ⟨c.val - 3, hk⟩ fun m => wrapped_apply _ b i m _ ?_
      have hd : (fun j => distances P (ix3 b i j)) = dist (fun i k => P (ix3 b i k)) i := funext (distances_apply P b i)
      rw [numbers_apply, hd]
      rfl

/-- A product followed by the positive part is the layer. -/
theorem layer_apply {B M K N : ℕ} (w : DotDims.WF ⟨3, ![B, M, K]⟩ ⟨2, ![K, N]⟩ ⟨3, ![B, M, N]⟩ [2] [0] [0, 1] [1] [] [])
    (hz : S_.BroadcastsInDim ⟨3, ![B, M, N]⟩ ![]) (f : FVec Ideal ⟨3, ![B, M, K]⟩ .f32) (W : FVec Ideal ⟨2, ![K, N]⟩ .f32)
    (b : Fin B) (g : Fin M → Fin K → EReal) (hf : ∀ i k, f (ix3 b i k) = g i k) (i : Fin M) (c : Fin N) :
    maximumf (Host.dotGeneral (⟨[2], [0], [0, 1], [1], [], [], w⟩ : DotDims _ _ _) none f W)
        (broadcastInDim ⟨3, ![B, M, N]⟩ ![] hz (constant S_ .f32 0x00000000#32)) (ix3 b i c)
      = layer g (fun k c => W (ix2 k c)) i c := by
  refine (maximumf_apply _ _ _).trans ?_
  unfold layer
  refine congrArg₂ (fun a b : EReal => max a b) ((HostOps.product_apply w none f W b i c).trans ?_)
    ((broadcastInDim_scalar_apply _ _ _).trans Ideal.ofBits_zero_f32)
  exact Finset.sum_congr rfl fun k _ => by rw [hf]

theorem layer1_apply (f : FVec Ideal S16x1024x6 .f32) (W : FVec Ideal S6x32 .f32) (b : Fin 16) (g : Fin 1024 → Fin 6 → EReal)
    (hf : ∀ i k, f (ix3 b i k) = g i k) (i : Fin 1024) (c : Fin 32) :
    layer1 f W (ix3 b i c) = layer g (fun k c => W (ix2 k c)) i c :=
  layer_apply dot_S16x1024x6_S6x32_S16x1024x32_2_0_01_1_n_n.wf bcast_S_S16x1024x32 f W b g hf i c

theorem layer2_apply (f : FVec Ideal S16x1024x32 .f32) (W : FVec Ideal S32x64 .f32) (b : Fin 16)
    (g : Fin 1024 → Fin 32 → EReal) (hf : ∀ i k, f (ix3 b i k) = g i k) (i : Fin 1024) (c : Fin 64) :
    layer2 f W (ix3 b i c) = layer g (fun k c => W (ix2 k c)) i c :=
  layer_apply dot_S16x1024x32_S32x64_S16x1024x64_2_0_01_1_n_n.wf bcast_S_S16x1024x64 f W b g hf i c

theorem layer3_apply (f : FVec Ideal S16x1024x64 .f32) (W : FVec Ideal S64x128 .f32) (b : Fin 16)
    (g : Fin 1024 → Fin 64 → EReal) (hf : ∀ i k, f (ix3 b i k) = g i k) (i : Fin 1024) (c : Fin 128) :
    layer3 f W (ix3 b i c) = layer g (fun k c => W (ix2 k c)) i c :=
  layer_apply dot_S16x1024x64_S64x128_S16x1024x128_2_0_01_1_n_n.wf bcast_S_S16x1024x128 f W b g hf i c

/-- The greatest value of each feature of one batch entry. -/
theorem greatest_apply (f : FVec Ideal S16x1024x128 .f32) (b : Fin 16) (g : Fin 1024 → Fin 128 → EReal)
    (hf : ∀ i k, f (ix3 b i k) = g i k) (c : Fin 128) : greatest f (ix2 b c) = best g c := by
  unfold greatest best
  refine (Host.reduce_eq_fold_single FloatOps.maximumf f _ reducesTo_S16x1024x128_S16x128_d1 reduces_points h_S_ (ix2 b c)).trans ?_
  refine congrArg₂ (fun b (h : Fin 1024 → EReal) => (Finset.univ : Finset (Fin 1024)).fold max b h) ofBits_neg_inf ?_
  funext i
  refine Eq.trans (congrArg f ?_) (hf i c)
  funext a
  match a with
  | ⟨0, _⟩ => rfl
  | ⟨1, _⟩ => rfl
  | ⟨2, _⟩ => rfl

/-- The last affine map of one batch entry. -/
theorem last_apply (f : FVec Ideal S16x128 .f32) (W : FVec Ideal S128x48 .f32) (v : FVec Ideal S48 .f32) (b : Fin 16)
    (g : Fin 128 → EReal) (hf : ∀ k, f (ix2 b k) = g k) (c : Fin 48) :
    last f W v (ix3 b (0 : Fin 1) c) = affine g (fun k c => W (ix2 k c)) (fun c => v (ix1 c)) c := by
  unfold last
  refine (shapeCast_apply _ shapeCasts_S16x48_S16x1x48 (ix3 b (0 : Fin 1) c) (ix2 b c) (by
    rw [Shape.rowMajor_val_two, Shape.rowMajor_val_three]
    show b.val * 48 + c.val = (b.val * 1 + 0) * 48 + c.val
    omega)).trans ?_
  refine (addf_apply _ _ _).trans ?_
  unfold affine
  refine congrArg₂ (fun a b : EReal => a + b) ((StackMember.dotGeneral_plain_apply none f W b c).trans ?_)
    ((broadcastInDim_apply _ _ _ (ix2 b c) (ix2 (0 : Fin 1) c) fun a => by
      match a with
      | ⟨0, _⟩ => rfl
      | ⟨1, _⟩ => rfl).trans
    (broadcastInDim_apply _ _ _ (ix2 (0 : Fin 1) c) (ix1 c) fun a => by
      match a with
      | ⟨0, _⟩ => rfl))
  exact Finset.sum_congr rfl fun k _ => by rw [hf]

/-- **The reference's result**: at every batch entry, that entry's keypoint coordinates. -/
theorem result_apply (m : (ℓ : Loc nD τ sig) → Buf (Elt Ideal) ℓ) (c : Dev nD) (b : Fin 16) (j : Fin 48) :
    (Cert.ReferenceIdeal.Value.res_main_v36 m c : S16x1x48.Idx → EReal) (ix3 b (0 : Fin 1) j)
      = keypoints (fun i k => (m ((c.tc : Thread nD τ).loc main_arg0) : S16x3x1024.Idx → EReal) (ix3 b k i))
          (fun k l => (m ((c.tc : Thread nD τ).loc main_arg1) : S6x32.Idx → EReal) (ix2 k l))
          (fun k l => (m ((c.tc : Thread nD τ).loc main_arg2) : S32x64.Idx → EReal) (ix2 k l))
          (fun k l => (m ((c.tc : Thread nD τ).loc main_arg3) : S64x128.Idx → EReal) (ix2 k l))
          (fun k l => (m ((c.tc : Thread nD τ).loc main_arg4) : S128x48.Idx → EReal) (ix2 k l))
          (fun l => (m ((c.tc : Thread nD τ).loc main_arg5) : S48.Idx → EReal) (ix1 l)) j := by
  rw [result_eq]
  have hp : (fun i k => points (m ((c.tc : Thread nD τ).loc main_arg0)) (ix3 b i k))
      = fun i k => (m ((c.tc : Thread nD τ).loc main_arg0) : S16x3x1024.Idx → EReal) (ix3 b k i) :=
    funext fun i => funext fun k => points_apply _ b i k
  rw [← hp]
  generalize points (m ((c.tc : Thread nD τ).loc main_arg0)) = P
  have hf := features_apply P b
  generalize features P (offsets P (wrapped (numbers (distances P)))) = f at hf ⊢
  exact last_apply _ _ _ b _ (greatest_apply _ b _ (layer3_apply _ _ b _ (layer2_apply _ _ b _ (layer1_apply f _ b _ hf)))) j

end Cert.Proof.Reference

end
-- ==== Proof.Place.lean ====
/- The placement of a model by a given rotation: the shift that carries the turned model keypoints' mean to the detected
   keypoints' mean, and the turned model points moved by it; and the reference's arrays, which hold exactly these. -/
module

public import proofs.«01_k».proof.Proof.Gen.PlaceIdeal.Run
public import proofs.«01_k».proof.Proof.HostOps

@[expose] public section

noncomputable section

namespace Cert.Proof.Place

open Cert.PlaceIdeal Cert.PlaceIdeal.Gen Idealize.ShloMosaic Idealize.ShloMosaic.TcCoe Idealize.SL.Sem
  Idealize.ShloMosaic.ValueIdx

/-- Column `16 i + n` of the detected keypoints: coordinate `i` of keypoint `n`. -/
def spot (i : Fin 3) (n : Fin 16) : Fin 48 := ⟨16 * i.val + n.val, by omega⟩

/-- Column `3 i + j` of the flattened rotations: row `i`, column `j`. -/
def cell (i j : Fin 3) : Fin 9 := ⟨3 * i.val + j.val, by omega⟩

/-- The mean of sixteen values. -/
def mean (f : Fin 16 → EReal) : EReal := Ideal.div (∑ n, f n) (Ideal.ofBits .f32 0x41800000#32)

/-- The shift of one entry: the detected keypoints' mean less the turned mean of the model's keypoints. -/
def shift (D : Fin 48 → EReal) (K : Fin 3 → Fin 16 → EReal) (R : Fin 9 → EReal) (i : Fin 3) : EReal :=
  mean (fun n => D (spot i n)) - ∑ j, R (cell i j) * mean (K j)

/-- One entry's placed model: its points turned, then moved by the shift. -/
def placed (D : Fin 48 → EReal) (K : Fin 3 → Fin 16 → EReal) (C : Fin 3 → Fin 1024 → EReal) (R : Fin 9 → EReal)
    (i : Fin 3) (n : Fin 1024) : EReal :=
  (∑ j, R (cell i j) * C j n) + shift D K R i

/-! ## The reference -/

variable (D : FVec Ideal S16x48 .f32) (K : FVec Ideal S1x3x16 .f32) (C : FVec Ideal S1x3x1024 .f32)
  (R : FVec Ideal S16x3x3 .f32)

theorem reduces_model : S3x16.Reduces [1] S3 := by decide
theorem reduces_found : S16x3x16.Reduces [2] S16x3 := by decide

/-- The rotations flattened, at an index. -/
theorem flat_apply (b : Fin 16) (i j : Fin 3) :
    shapeCast S16x9 R shapeCasts_S16x3x3_S16x9 (ix2 b (cell i j)) = R (ix3 b i j) :=
  shapeCast_apply R shapeCasts_S16x3x3_S16x9 (ix2 b (cell i j)) (ix3 b i j) (by
    rw [Shape.rowMajor_val_three, Shape.rowMajor_val_two]
    show (b.val * 3 + i.val) * 3 + j.val = b.val * 9 + (3 * i.val + j.val)
    omega)

/-- The model's keypoints without their leading axis, at an index. -/
theorem model_apply (j : Fin 3) (n : Fin 16) :
    shapeCast S3x16 K shapeCasts_S1x3x16_S3x16 (ix2 j n) = K (ix3 (0 : Fin 1) j n) :=
  shapeCast_apply K shapeCasts_S1x3x16_S3x16 (ix2 j n) (ix3 (0 : Fin 1) j n) (by
    rw [Shape.rowMajor_val_three, Shape.rowMajor_val_two]
    show (0 * 3 + j.val) * 16 + n.val = j.val * 16 + n.val
    omega)

/-- The model's points without their leading axis, at an index. -/
theorem cad_apply (j : Fin 3) (n : Fin 1024) :
    shapeCast S3x1024 C shapeCasts_S1x3x1024_S3x1024 (ix2 j n) = C (ix3 (0 : Fin 1) j n) :=
  shapeCast_apply C shapeCasts_S1x3x1024_S3x1024 (ix2 j n) (ix3 (0 : Fin 1) j n) (by
    rw [Shape.rowMajor_val_three, Shape.rowMajor_val_two]
    show (0 * 3 + j.val) * 1024 + n.val = j.val * 1024 + n.val
    omega)

/-- The detected keypoints as coordinates by keypoints, at an index. -/
theorem found_apply (b : Fin 16) (i : Fin 3) (n : Fin 16) :
    shapeCast S16x3x16 D shapeCasts_S16x48_S16x3x16 (ix3 b i n) = D (ix2 b (spot i n)) :=
  shapeCast_apply D shapeCasts_S16x48_S16x3x16 (ix3 b i n) (ix2 b (spot i n)) (by
    rw [Shape.rowMajor_val_three, Shape.rowMajor_val_two]
    show b.val * 48 + (16 * i.val + n.val) = (b.val * 3 + i.val) * 16 + n.val
    omega)

/-- The means of the model's keypoints. -/
def modelMeans : FVec Ideal S3x1 .f32 :=
  Host.divf (broadcastInDim S3x1 ![0] bcast_S3_S3x1_0 (Host.reduceAdd (shapeCast S3x16 K shapeCasts_S1x3x16_S3x16)
    (constant S_ .f32 0x00000000#32) reducesTo_S3x16_S3_d1 h_S_)) (broadcastInDim S3x1 ![] bcast_S_S3x1 (constant S_ .f32 0x41800000#32))

/-- The means of the detected keypoints. -/
def foundMeans : FVec Ideal S16x3x1 .f32 :=
  Host.divf (broadcastInDim S16x3x1 ![0, 1] bcast_S16x3_S16x3x1_0_1 (Host.reduceAdd (shapeCast S16x3x16 D shapeCasts_S16x48_S16x3x16)
    (constant S_ .f32 0x00000000#32) reducesTo_S16x3x16_S16x3_d2 h_S_)) (broadcastInDim S16x3x1 ![] bcast_S_S16x3x1 (constant S_ .f32 0x41800000#32))

/-- The shifts. -/
def shifts : FVec Ideal S16x3x1 .f32 :=
  subf (foundMeans D) (Host.dotGeneral dot_S16x3x3_S3x1_S16x3x1_2_0_01_1_n_n none R (modelMeans K))

/-- The placed models. -/
def models : FVec Ideal S16x3x1024 .f32 :=
  addf (Host.dotGeneral dot_S16x3x3_S3x1024_S16x3x1024_2_0_01_1_n_n none R (shapeCast S3x1024 C shapeCasts_S1x3x1024_S3x1024))
    (broadcastInDim S16x3x1024 ![0, 1, 2] bcast_S16x3x1_S16x3x1024_0_1_2 (shifts D K R))

theorem modelMeans_apply (j : Fin 3) : modelMeans K (ix2 j (0 : Fin 1)) = mean fun n => K (ix3 (0 : Fin 1) j n) := by
  show Ideal.div (broadcastInDim S3x1 ![0] bcast_S3_S3x1_0 (Host.reduceAdd (F := Ideal) (φ := .f32) (shapeCast S3x16 K shapeCasts_S1x3x16_S3x16)
      (constant S_ .f32 0x00000000#32) reducesTo_S3x16_S3_d1 h_S_) (ix2 j (0 : Fin 1)))
    (Ideal.ofBits .f32 0x41800000#32) = _
  unfold mean
  refine congrArg₂ Ideal.div ?_ rfl
  refine (broadcastInDim_apply _ _ _ (ix2 j (0 : Fin 1)) (ix1 j) fun a => by
    match a with
    | ⟨0, _⟩ => rfl).trans ?_
  refine (hostReduceAdd_apply _ _ _ _ _).trans ?_
  refine (Ideal.hostReduceAdd_single _ reduces_model _ _ _).trans ?_
  refine (congrArg (fun z : EReal => z + _) Ideal.ofBits_zero_f32).trans ?_
  refine (zero_add _).trans (Finset.sum_congr rfl fun (n : Fin 16) _ => ?_)
  refine Eq.trans (congrArg _ ?_) (model_apply K j n)
  funext a
  match a with
  | ⟨0, _⟩ => rfl
  | ⟨1, _⟩ => rfl

theorem foundMeans_apply (b : Fin 16) (i : Fin 3) :
    foundMeans D (ix3 b i (0 : Fin 1)) = mean fun n => D (ix2 b (spot i n)) := by
  show Ideal.div (broadcastInDim S16x3x1 ![0, 1] bcast_S16x3_S16x3x1_0_1 (Host.reduceAdd (F := Ideal) (φ := .f32) (shapeCast S16x3x16 D shapeCasts_S16x48_S16x3x16)
      (constant S_ .f32 0x00000000#32) reducesTo_S16x3x16_S16x3_d2 h_S_) (ix3 b i (0 : Fin 1)))
    (Ideal.ofBits .f32 0x41800000#32) = _
  unfold mean
  refine congrArg₂ Ideal.div ?_ rfl
  refine (broadcastInDim_apply _ _ _ (ix3 b i (0 : Fin 1)) (ix2 b i) fun a => by
    match a with
    | ⟨0, _⟩ => rfl
    | ⟨1, _⟩ => rfl).trans ?_
  refine (hostReduceAdd_apply _ _ _ _ _).trans ?_
  refine (Ideal.hostReduceAdd_single _ reduces_found _ _ _).trans ?_
  refine (congrArg (fun z : EReal => z + _) Ideal.ofBits_zero_f32).trans ?_
  refine (zero_add _).trans (Finset.sum_congr rfl fun (n : Fin 16) _ => ?_)
  refine Eq.trans (congrArg _ ?_) (found_apply D b i n)
  funext a
  match a with
  | ⟨0, _⟩ => rfl
  | ⟨1, _⟩ => rfl
  | ⟨2, _⟩ => rfl

/-- The reference's shifts at an index. -/
theorem shifts_apply (b : Fin 16) (i : Fin 3) : shifts D K R (ix3 b i (0 : Fin 1))
    = shift (fun l => D (ix2 b l)) (fun j n => K (ix3 (0 : Fin 1) j n))
        (fun l => shapeCast S16x9 R shapeCasts_S16x3x3_S16x9 (ix2 b l)) i := by
  unfold shift
  refine congrArg₂ (fun x y : EReal => x - y) (foundMeans_apply D b i)
    ((HostOps.product_apply dot_S16x3x3_S3x1_S16x3x1_2_0_01_1_n_n.wf none R (modelMeans K) b i (0 : Fin 1)).trans ?_)
  refine Finset.sum_congr rfl fun j _ => ?_
  exact congrArg₂ (fun x y : EReal => x * y) (flat_apply R b i j).symm (modelMeans_apply K j)

/-- The reference's placed models at an index. -/
theorem models_apply (b : Fin 16) (i : Fin 3) (n : Fin 1024) : models D K C R (ix3 b i n)
    = placed (fun l => D (ix2 b l)) (fun j n => K (ix3 (0 : Fin 1) j n)) (fun j n => C (ix3 (0 : Fin 1) j n))
        (fun l => shapeCast S16x9 R shapeCasts_S16x3x3_S16x9 (ix2 b l)) i n := by
  unfold placed
  refine congrArg₂ (fun x y : EReal => x + y)
    ((HostOps.product_apply dot_S16x3x3_S3x1024_S16x3x1024_2_0_01_1_n_n.wf none R _ b i n).trans ?_)
    ((broadcastInDim_apply _ _ _ (ix3 b i n) (ix3 b i (0 : Fin 1)) fun a => by
      match a with
      | ⟨0, _⟩ => rfl
      | ⟨1, _⟩ => rfl
      | ⟨2, _⟩ => rfl).trans (shifts_apply D K R b i))
  refine Finset.sum_congr rfl fun j _ => ?_
  exact congrArg₂ (fun x y : EReal => x * y) (flat_apply R b i j).symm (cad_apply C j n)

/-- The reference's shifts without their last axis, at an index. -/
theorem flatShifts_apply (b : Fin 16) (i : Fin 3) :
    shapeCast S16x3 (shifts D K R) shapeCasts_S16x3x1_S16x3 (ix2 b i)
      = shift (fun l => D (ix2 b l)) (fun j n => K (ix3 (0 : Fin 1) j n))
          (fun l => shapeCast S16x9 R shapeCasts_S16x3x3_S16x9 (ix2 b l)) i :=
  (shapeCast_apply _ shapeCasts_S16x3x1_S16x3 (ix2 b i) (ix3 b i (0 : Fin 1)) (by
    rw [Shape.rowMajor_val_three, Shape.rowMajor_val_two]
    show (b.val * 3 + i.val) * 1 + 0 = b.val * 3 + i.val
    omega)).trans (shifts_apply D K R b i)

end Cert.Proof.Place

end
-- ==== Proof.Register.lean ====
/- The arrays the second call's body leaves once the rotation is known, over extended reals: the placed models, the rotation
   itself and the shifts, each read at an index. -/
module

public import proofs.«01_k».proof.Proof.Gen.RegisterIdeal.Frame
public import proofs.«01_k».proof.Proof.Place
public import Idealize.ShloMosaic.Lib.Pipeline.Value
public import Idealize.ShloMosaic.Lib.StableHlo.Run

@[expose] public section

noncomputable section

namespace Cert.Proof.Register

open Cert.RegisterIdeal Cert.RegisterIdeal.Gen Idealize.ShloMosaic Idealize.ShloMosaic.TcCoe Idealize.SL.Sem
  Idealize.ShloMosaic.ValueIdx Cert.Proof.Place

theorem zeros2 : (![0, 0] : Fin 2 → ℕ) = fun _ => 0 := by funext a; fin_cases a <;> rfl

/-! ## Values of any vectors at an index -/

/-- A column less three turned terms. -/
theorem turned_apply (v a0 a1 a2 : FVec Ideal S16x1 .f32) (w0 w1 w2 : FVec Ideal S1x1 .f32) (b : Fin 16) :
    subf v (addf (addf (mulf a0 (broadcastTo S16x1 w0 broadcasts_S1x1_S16x1)) (mulf a1 (broadcastTo S16x1 w1 broadcasts_S1x1_S16x1)))
        (mulf a2 (broadcastTo S16x1 w2 broadcasts_S1x1_S16x1))) (ix2 b (0 : Fin 1))
      = v (ix2 b (0 : Fin 1)) - (a0 (ix2 b (0 : Fin 1)) * w0 (ix2 (0 : Fin 1) (0 : Fin 1))
          + a1 (ix2 b (0 : Fin 1)) * w1 (ix2 (0 : Fin 1) (0 : Fin 1)) + a2 (ix2 b (0 : Fin 1)) * w2 (ix2 (0 : Fin 1) (0 : Fin 1))) := by
  have e : ∀ w : FVec Ideal S1x1 .f32, broadcastTo S16x1 w broadcasts_S1x1_S16x1 (ix2 b (0 : Fin 1)) = w (ix2 (0 : Fin 1) (0 : Fin 1)) :=
    fun w => broadcastTo_apply _ _ (ix2 b (0 : Fin 1)) (ix2 (0 : Fin 1) (0 : Fin 1)) fun a => by
      match a with
      | ⟨0, _⟩ => rfl
      | ⟨1, _⟩ => rfl
  show v (ix2 b (0 : Fin 1)) - (a0 (ix2 b (0 : Fin 1)) * broadcastTo S16x1 w0 broadcasts_S1x1_S16x1 (ix2 b (0 : Fin 1))
    + a1 (ix2 b (0 : Fin 1)) * broadcastTo S16x1 w1 broadcasts_S1x1_S16x1 (ix2 b (0 : Fin 1))
    + a2 (ix2 b (0 : Fin 1)) * broadcastTo S16x1 w2 broadcasts_S1x1_S16x1 (ix2 b (0 : Fin 1))) = _
  rw [e, e, e]

/-- Three turned rows and a column. -/
theorem moved_apply (a0 a1 a2 s : FVec Ideal S16x1 .f32) (u0 u1 u2 : FVec Ideal S1x1024 .f32) (b : Fin 16) (n : Fin 1024) :
    addf (addf (addf (mulf (broadcastTo S16x1024 a0 broadcasts_S16x1_S16x1024) (broadcastTo S16x1024 u0 broadcasts_S1x1024_S16x1024))
        (mulf (broadcastTo S16x1024 a1 broadcasts_S16x1_S16x1024) (broadcastTo S16x1024 u1 broadcasts_S1x1024_S16x1024)))
        (mulf (broadcastTo S16x1024 a2 broadcasts_S16x1_S16x1024) (broadcastTo S16x1024 u2 broadcasts_S1x1024_S16x1024)))
        (broadcastTo S16x1024 s broadcasts_S16x1_S16x1024) (ix2 b n)
      = (a0 (ix2 b (0 : Fin 1)) * u0 (ix2 (0 : Fin 1) n) + a1 (ix2 b (0 : Fin 1)) * u1 (ix2 (0 : Fin 1) n)
          + a2 (ix2 b (0 : Fin 1)) * u2 (ix2 (0 : Fin 1) n)) + s (ix2 b (0 : Fin 1)) := by
  have e : ∀ w : FVec Ideal S16x1 .f32, broadcastTo S16x1024 w broadcasts_S16x1_S16x1024 (ix2 b n) = w (ix2 b (0 : Fin 1)) :=
    fun w => broadcastTo_apply _ _ (ix2 b n) (ix2 b (0 : Fin 1)) fun a => by
      match a with
      | ⟨0, _⟩ => rfl
      | ⟨1, _⟩ => rfl
  have f : ∀ w : FVec Ideal S1x1024 .f32, broadcastTo S16x1024 w broadcasts_S1x1024_S16x1024 (ix2 b n) = w (ix2 (0 : Fin 1) n) :=
    fun w => broadcastTo_apply _ _ (ix2 b n) (ix2 (0 : Fin 1) n) fun a => by
      match a with
      | ⟨0, _⟩ => rfl
      | ⟨1, _⟩ => rfl
  show (broadcastTo S16x1024 a0 broadcasts_S16x1_S16x1024 (ix2 b n) * broadcastTo S16x1024 u0 broadcasts_S1x1024_S16x1024 (ix2 b n)
    + broadcastTo S16x1024 a1 broadcasts_S16x1_S16x1024 (ix2 b n) * broadcastTo S16x1024 u1 broadcasts_S1x1024_S16x1024 (ix2 b n)
    + broadcastTo S16x1024 a2 broadcasts_S16x1_S16x1024 (ix2 b n) * broadcastTo S16x1024 u2 broadcasts_S1x1024_S16x1024 (ix2 b n))
    + broadcastTo S16x1024 s broadcasts_S16x1_S16x1024 (ix2 b n) = _
  rw [e, e, e, e, f, f, f]

/-- A matrix with a middle axis of length one put in, at an index. -/
theorem middle_apply (v : FVec Ideal S16x1024 .f32) (b : Fin 16) (n : Fin 1024) :
    shapeCast S16x1x1024 v shapeCasts_S16x1024_S16x1x1024 (ix3 b (0 : Fin 1) n) = v (ix2 b n) :=
  shapeCast_apply v shapeCasts_S16x1024_S16x1x1024 (ix3 b (0 : Fin 1) n) (ix2 b n) (by
    rw [Shape.rowMajor_val_two, Shape.rowMajor_val_three]
    show b.val * 1024 + n.val = (b.val * 1 + 0) * 1024 + n.val
    omega)

/-! ## The body's values at an index -/

variable (x0 : FVec Ideal S16x48 .f32) (x1 : FVec Ideal S3x16 .f32) (x2 : FVec Ideal S3x1024 .f32) (x3 : FVec Ideal S16x9 .f32)

/-- The sum of one coordinate of the detected keypoints. -/
theorem found_sum (i : Fin 3) (o : ℕ) (ho : o = 16 * i.val) (h : S16x48.Slices ![0, o] S16x16) (b : Fin 16) :
    multiReduction (F := Ideal) .add [1] S16 (extractStridedSlice S16x16 ![0, o] x0 h) 0x00000000#32 reduces_S16x16_S16 (.inl rfl) rfl (ix1 b)
      = ∑ n, x0 (ix2 b (spot i n)) := by
  refine (Ideal.multiReduction_add_single _ _ reduces_S16x16_S16 (.inl rfl) rfl (ix1 b)).trans ?_
  refine Finset.sum_congr rfl fun (n : Fin 16) _ => ?_
  refine extractStridedSlice_apply _ _ h _ (ix2 b (spot i n)) fun a => ?_
  match a with
  | ⟨0, _⟩ => exact (Nat.zero_add _).symm
  | ⟨1, _⟩ => show 16 * i.val + n.val = o + n.val; omega

/-- The sum of one coordinate of the model's keypoints. -/
theorem model_sum (j : Fin 3) (h : S3x16.Slices ![j.val, 0] S1x16) :
    multiReduction (F := Ideal) .add [1] S1 (extractStridedSlice S1x16 ![j.val, 0] (shapeCast S3x16 x1 shapeCasts_S3x16_S3x16) h)
      0x00000000#32 reduces_S1x16_S1 (.inl rfl) rfl (ix1 (0 : Fin 1)) = ∑ n, x1 (ix2 j n) := by
  rw [shapeCast_self]
  refine (Ideal.multiReduction_add_single _ _ reduces_S1x16_S1 (.inl rfl) rfl (ix1 (0 : Fin 1))).trans ?_
  refine Finset.sum_congr rfl fun (n : Fin 16) _ => ?_
  refine extractStridedSlice_apply _ _ h _ (ix2 j n) fun a => ?_
  match a with
  | ⟨0, _⟩ => exact (Nat.add_zero _).symm
  | ⟨1, _⟩ => exact (Nat.zero_add _).symm

/-- A column of the flattened rotations. -/
theorem column_apply (l : Fin 9) (h : S16x9.Slices ![0, l.val] S16x1) (b : Fin 16) :
    extractStridedSlice S16x1 ![0, l.val] (shapeCast S16x9 x3 shapeCasts_S16x9_S16x9) h (ix2 b (0 : Fin 1)) = x3 (ix2 b l) := by
  rw [shapeCast_self]
  refine extractStridedSlice_apply _ _ h _ (ix2 b l) fun a => ?_
  match a with
  | ⟨0, _⟩ => exact (Nat.zero_add _).symm
  | ⟨1, _⟩ => exact (Nat.add_zero _).symm

/-- A row of the model's points. -/
theorem row_apply (j : Fin 3) (h : S3x1024.Slices ![j.val, 0] S1x1024) (n : Fin 1024) :
    extractStridedSlice S1x1024 ![j.val, 0] (shapeCast S3x1024 x2 shapeCasts_S3x1024_S3x1024) h (ix2 (0 : Fin 1) n) = x2 (ix2 j n) := by
  rw [shapeCast_self]
  refine extractStridedSlice_apply _ _ h _ (ix2 j n) fun a => ?_
  match a with
  | ⟨0, _⟩ => exact (Nat.add_zero _).symm
  | ⟨1, _⟩ => exact (Nat.zero_add _).symm

/-- A mean of the detected keypoints, for any sum. -/
theorem foundMean_of (v : FVec Ideal S16 .f32) (b : Fin 16) :
    divf (shapeCast S16x1 v shapeCasts_S16_S16x1) (broadcast S16x1 (Scalar.ofBits .f32 0x41800000#32)) (ix2 b (0 : Fin 1))
      = Ideal.div (v (ix1 b)) (Ideal.ofBits .f32 0x41800000#32) :=
  congrArg (fun z : EReal => Ideal.div z (Ideal.ofBits .f32 0x41800000#32))
    (shapeCast_apply v shapeCasts_S16_S16x1 (ix2 b (0 : Fin 1)) (ix1 b) (by
      rw [Shape.rowMajor_val_two, Shape.rowMajor_val_one]
      show b.val = b.val * 1 + 0
      omega))

/-- A mean of the model's keypoints, for any sum. -/
theorem modelMean_of (v : FVec Ideal S1 .f32) :
    divf (shapeCast S1x1 v shapeCasts_S1_S1x1) (broadcast S1x1 (Scalar.ofBits .f32 0x41800000#32)) (ix2 (0 : Fin 1) (0 : Fin 1))
      = Ideal.div (v (ix1 (0 : Fin 1))) (Ideal.ofBits .f32 0x41800000#32) :=
  congrArg (fun z : EReal => Ideal.div z (Ideal.ofBits .f32 0x41800000#32))
    (shapeCast_apply v shapeCasts_S1_S1x1 (ix2 (0 : Fin 1) (0 : Fin 1)) (ix1 (0 : Fin 1)) (by
      rw [Shape.rowMajor_val_two, Shape.rowMajor_val_one]
      rfl))

theorem modelMean0 : k0_pay5 (F := Ideal) x1 (ix2 (0 : Fin 1) (0 : Fin 1)) = mean fun n => x1 (ix2 0 n) :=
  (modelMean_of _).trans (congrArg (fun z : EReal => Ideal.div z (Ideal.ofBits .f32 0x41800000#32)) (model_sum x1 0 slices_S3x16_o0_0_S1x16))

theorem modelMean1 : k0_pay6 (F := Ideal) x1 (ix2 (0 : Fin 1) (0 : Fin 1)) = mean fun n => x1 (ix2 1 n) :=
  (modelMean_of _).trans (congrArg (fun z : EReal => Ideal.div z (Ideal.ofBits .f32 0x41800000#32)) (model_sum x1 1 slices_S3x16_o1_0_S1x16))

theorem modelMean2 : k0_pay7 (F := Ideal) x1 (ix2 (0 : Fin 1) (0 : Fin 1)) = mean fun n => x1 (ix2 2 n) :=
  (modelMean_of _).trans (congrArg (fun z : EReal => Ideal.div z (Ideal.ofBits .f32 0x41800000#32)) (model_sum x1 2 slices_S3x16_o2_0_S1x16))

theorem foundMean0 (b : Fin 16) : k0_pay8 (F := Ideal) x0 (ix2 b (0 : Fin 1)) = mean fun n => x0 (ix2 b (spot 0 n)) :=
  (foundMean_of _ b).trans (congrArg (fun z : EReal => Ideal.div z (Ideal.ofBits .f32 0x41800000#32))
    (found_sum x0 0 0 rfl slices_S16x48_o0_0_S16x16 b))

theorem foundMean1 (b : Fin 16) : k0_pay9 (F := Ideal) x0 (ix2 b (0 : Fin 1)) = mean fun n => x0 (ix2 b (spot 1 n)) :=
  (foundMean_of _ b).trans (congrArg (fun z : EReal => Ideal.div z (Ideal.ofBits .f32 0x41800000#32))
    (found_sum x0 1 16 rfl slices_S16x48_o0_16_S16x16 b))

theorem foundMean2 (b : Fin 16) : k0_pay10 (F := Ideal) x0 (ix2 b (0 : Fin 1)) = mean fun n => x0 (ix2 b (spot 2 n)) :=
  (foundMean_of _ b).trans (congrArg (fun z : EReal => Ideal.div z (Ideal.ofBits .f32 0x41800000#32))
    (found_sum x0 2 32 rfl slices_S16x48_o0_32_S16x16 b))

theorem column0 (b : Fin 16) : k0_pay12 (F := Ideal) x3 (ix2 b (0 : Fin 1)) = x3 (ix2 b 0) :=
  column_apply x3 0 slices_S16x9_o0_0_S16x1 b

theorem column1 (b : Fin 16) : k0_pay13 (F := Ideal) x3 (ix2 b (0 : Fin 1)) = x3 (ix2 b 1) :=
  column_apply x3 1 slices_S16x9_o0_1_S16x1 b

theorem column2 (b : Fin 16) : k0_pay14 (F := Ideal) x3 (ix2 b (0 : Fin 1)) = x3 (ix2 b 2) :=
  column_apply x3 2 slices_S16x9_o0_2_S16x1 b

theorem column3 (b : Fin 16) : k0_pay15 (F := Ideal) x3 (ix2 b (0 : Fin 1)) = x3 (ix2 b 3) :=
  column_apply x3 3 slices_S16x9_o0_3_S16x1 b

theorem column4 (b : Fin 16) : k0_pay16 (F := Ideal) x3 (ix2 b (0 : Fin 1)) = x3 (ix2 b 4) :=
  column_apply x3 4 slices_S16x9_o0_4_S16x1 b

theorem column5 (b : Fin 16) : k0_pay17 (F := Ideal) x3 (ix2 b (0 : Fin 1)) = x3 (ix2 b 5) :=
  column_apply x3 5 slices_S16x9_o0_5_S16x1 b

theorem column6 (b : Fin 16) : k0_pay18 (F := Ideal) x3 (ix2 b (0 : Fin 1)) = x3 (ix2 b 6) :=
  column_apply x3 6 slices_S16x9_o0_6_S16x1 b

theorem column7 (b : Fin 16) : k0_pay19 (F := Ideal) (k0_pay11 x3) (ix2 b (0 : Fin 1)) = x3 (ix2 b 7) :=
  column_apply x3 7 slices_S16x9_o0_7_S16x1 b

theorem column8 (b : Fin 16) : k0_pay20 (F := Ideal) (k0_pay11 x3) (ix2 b (0 : Fin 1)) = x3 (ix2 b 8) :=
  column_apply x3 8 slices_S16x9_o0_8_S16x1 b

theorem row0 (n : Fin 1024) : k0_pay37 (F := Ideal) x2 (ix2 (0 : Fin 1) n) = x2 (ix2 0 n) :=
  row_apply x2 0 slices_S3x1024_o0_0_S1x1024 n

theorem row1 (n : Fin 1024) : k0_pay38 (F := Ideal) (k0_pay36 x2) (ix2 (0 : Fin 1) n) = x2 (ix2 1 n) :=
  row_apply x2 1 slices_S3x1024_o1_0_S1x1024 n

theorem row2 (n : Fin 1024) : k0_pay39 (F := Ideal) (k0_pay36 x2) (ix2 (0 : Fin 1) n) = x2 (ix2 2 n) :=
  row_apply x2 2 slices_S3x1024_o2_0_S1x1024 n

/-- The three columns of shifts the body computes. -/
def shiftColumn : Fin 3 → FVec Ideal S16x1 .f32 := fun i => match i with
  | ⟨0, _⟩ => k0_pay33 (F := Ideal) (k0_pay5 x1) (k0_pay6 x1) (k0_pay7 x1) (k0_pay8 x0) (k0_pay12 x3) (k0_pay13 x3) (k0_pay14 x3)
  | ⟨1, _⟩ => k0_pay34 (F := Ideal) (k0_pay5 x1) (k0_pay6 x1) (k0_pay7 x1) (k0_pay9 x0) (k0_pay15 x3) (k0_pay16 x3) (k0_pay17 x3)
  | ⟨2, _⟩ => k0_pay35 (F := Ideal) (k0_pay5 x1) (k0_pay6 x1) (k0_pay7 x1) (k0_pay10 x0) (k0_pay11 x3) (k0_pay18 x3)

theorem shift_of (D : Fin 48 → EReal) (K : Fin 3 → Fin 16 → EReal) (R : Fin 9 → EReal) (i : Fin 3)
    (r0 r1 r2 f m0 m1 m2 : EReal) (hf : f = mean fun n => D (spot i n)) (h0 : r0 = R (cell i 0)) (e0 : m0 = mean (K 0))
    (h1 : r1 = R (cell i 1)) (e1 : m1 = mean (K 1)) (h2 : r2 = R (cell i 2)) (e2 : m2 = mean (K 2)) :
    f - (r0 * m0 + r1 * m1 + r2 * m2) = shift D K R i := by
  subst h0 h1 h2 hf e0 e1 e2
  unfold shift
  rw [Fin.sum_univ_three]

theorem placed_of (D : Fin 48 → EReal) (K : Fin 3 → Fin 16 → EReal) (C : Fin 3 → Fin 1024 → EReal) (R : Fin 9 → EReal)
    (i : Fin 3) (n : Fin 1024) (r0 r1 r2 c0 c1 c2 s : EReal) (h0 : r0 = R (cell i 0)) (k0 : c0 = C 0 n) (h1 : r1 = R (cell i 1))
    (k1 : c1 = C 1 n) (h2 : r2 = R (cell i 2)) (k2 : c2 = C 2 n) (hs : s = shift D K R i) :
    (r0 * c0 + r1 * c1 + r2 * c2) + s = placed D K C R i n := by
  subst h0 h1 h2 k0 k1 k2 hs
  unfold placed
  rw [Fin.sum_univ_three]

/-- A column of shifts at an index. -/
theorem shiftColumn_apply (i : Fin 3) (b : Fin 16) : shiftColumn x0 x1 x3 i (ix2 b (0 : Fin 1))
    = shift (fun l => x0 (ix2 b l)) (fun j n => x1 (ix2 j n)) (fun l => x3 (ix2 b l)) i := by
  match i with
  | ⟨0, _⟩ =>
    exact (turned_apply (k0_pay8 x0) (k0_pay12 x3) (k0_pay13 x3) (k0_pay14 x3) (k0_pay5 x1) (k0_pay6 x1) (k0_pay7 x1) b).trans
      (shift_of _ _ _ 0 _ _ _ _ _ _ _ (foundMean0 x0 b) (column0 x3 b) (modelMean0 x1) (column1 x3 b) (modelMean1 x1) (column2 x3 b)
        (modelMean2 x1))
  | ⟨1, _⟩ =>
    exact (turned_apply (k0_pay9 x0) (k0_pay15 x3) (k0_pay16 x3) (k0_pay17 x3) (k0_pay5 x1) (k0_pay6 x1) (k0_pay7 x1) b).trans
      (shift_of _ _ _ 1 _ _ _ _ _ _ _ (foundMean1 x0 b) (column3 x3 b) (modelMean0 x1) (column4 x3 b) (modelMean1 x1) (column5 x3 b)
        (modelMean2 x1))
  | ⟨2, _⟩ =>
    exact (turned_apply (k0_pay10 x0) (k0_pay18 x3) (k0_pay19 (k0_pay11 x3)) (k0_pay20 (k0_pay11 x3)) (k0_pay5 x1) (k0_pay6 x1)
      (k0_pay7 x1) b).trans
      (shift_of _ _ _ 2 _ _ _ _ _ _ _ (foundMean2 x0 b) (column6 x3 b) (modelMean0 x1) (column7 x3 b) (modelMean1 x1) (column8 x3 b)
        (modelMean2 x1))

/-- The three rows of placed models the body computes. -/
def modelRow : Fin 3 → FVec Ideal S16x1x1024 .f32 := fun i => match i with
  | ⟨0, _⟩ => k0_pay40 (F := Ideal) (k0_pay21 (k0_pay12 x3)) (k0_pay22 (k0_pay13 x3)) (k0_pay23 (k0_pay14 x3)) (shiftColumn x0 x1 x3 0)
      (k0_pay36 x2) (k0_pay37 x2)
  | ⟨1, _⟩ => k0_pay41 (F := Ideal) (k0_pay24 (k0_pay15 x3)) (k0_pay25 (k0_pay16 x3)) (k0_pay26 (k0_pay17 x3)) (shiftColumn x0 x1 x3 1)
      (k0_pay36 x2) (k0_pay37 x2)
  | ⟨2, _⟩ => k0_pay1 (F := Ideal) (k0_pay42 (k0_pay27 (k0_pay18 x3)) (k0_pay28 (k0_pay11 x3)) (k0_pay29 (k0_pay11 x3))
      (shiftColumn x0 x1 x3 2) (k0_pay36 x2) (k0_pay37 x2))

/-- A row of placed models at an index. -/
theorem modelRow_apply (i : Fin 3) (b : Fin 16) (n : Fin 1024) : modelRow x0 x1 x2 x3 i (ix3 b (0 : Fin 1) n)
    = placed (fun l => x0 (ix2 b l)) (fun j n => x1 (ix2 j n)) (fun j n => x2 (ix2 j n)) (fun l => x3 (ix2 b l)) i n := by
  match i with
  | ⟨0, _⟩ =>
    exact ((middle_apply _ b n).trans (moved_apply (k0_pay12 x3) (k0_pay13 x3) (k0_pay14 x3) (shiftColumn x0 x1 x3 0) (k0_pay37 x2)
      (k0_pay38 (k0_pay36 x2)) (k0_pay39 (k0_pay36 x2)) b n)).trans
      (placed_of _ _ _ _ 0 n _ _ _ _ _ _ _ (column0 x3 b) (row0 x2 n) (column1 x3 b) (row1 x2 n) (column2 x3 b) (row2 x2 n)
        (shiftColumn_apply x0 x1 x3 0 b))
  | ⟨1, _⟩ =>
    exact ((middle_apply _ b n).trans (moved_apply (k0_pay15 x3) (k0_pay16 x3) (k0_pay17 x3) (shiftColumn x0 x1 x3 1) (k0_pay37 x2)
      (k0_pay38 (k0_pay36 x2)) (k0_pay39 (k0_pay36 x2)) b n)).trans
      (placed_of _ _ _ _ 1 n _ _ _ _ _ _ _ (column3 x3 b) (row0 x2 n) (column4 x3 b) (row1 x2 n) (column5 x3 b) (row2 x2 n)
        (shiftColumn_apply x0 x1 x3 1 b))
  | ⟨2, _⟩ =>
    exact ((middle_apply _ b n).trans (moved_apply (k0_pay18 x3) (k0_pay19 (k0_pay11 x3)) (k0_pay20 (k0_pay11 x3))
      (shiftColumn x0 x1 x3 2) (k0_pay37 x2) (k0_pay38 (k0_pay36 x2)) (k0_pay39 (k0_pay36 x2)) b n)).trans
      (placed_of _ _ _ _ 2 n _ _ _ _ _ _ _ (column6 x3 b) (row0 x2 n) (column7 x3 b) (row1 x2 n) (column8 x3 b) (row2 x2 n)
        (shiftColumn_apply x0 x1 x3 2 b))

/-! ## The blocks the body leaves -/

theorem shifts_eq : out0_6 (F := Ideal) x0 x1 x2 x3
    = k0_pay3 (F := Ideal) (shiftColumn x0 x1 x3 0) (shiftColumn x0 x1 x3 1) (shiftColumn x0 x1 x3 2) := by
  unfold_out out0_6
  rw [View.canon_unit_zero zeros2, View.ld_unit_zero zeros2, View.ld_unit_zero zeros2, View.ld_unit_zero zeros2]
  rfl

theorem rotation_eq : out0_5 (F := Ideal) x0 x1 x2 x3
    = k0_pay2 (F := Ideal) (k0_pay12 x3) (k0_pay13 x3) (k0_pay14 x3) (k0_pay15 x3) (k0_pay16 x3) (k0_pay17 x3) (k0_pay18 x3)
        (k0_pay19 (k0_pay11 x3)) (k0_pay20 (k0_pay11 x3)) := by
  unfold_out out0_5
  rw [View.canon_unit_zero zeros2, View.ld_unit_zero zeros2]

theorem models_eq : out0_4 (F := Ideal) x0 x1 x2 x3
    = View.canon [⟨r0_6, modelRow x0 x1 x2 x3 2⟩, ⟨r0_5, modelRow x0 x1 x2 x3 1⟩, ⟨r0_4, modelRow x0 x1 x2 x3 0⟩] := by
  unfold_out out0_4
  rw [View.ld_unit_zero zeros2, View.ld_unit_zero zeros2, View.ld_unit_zero zeros2, View.ld_unit_zero zeros2]
  rfl

/-- The body's shifts at an index. -/
theorem shifts_apply (b : Fin 16) (i : Fin 3) : out0_6 (F := Ideal) x0 x1 x2 x3 (ix2 b i)
    = shift (fun l => x0 (ix2 b l)) (fun j n => x1 (ix2 j n)) (fun l => x3 (ix2 b l)) i := by
  rw [shifts_eq]
  refine Eq.trans ?_ (shiftColumn_apply x0 x1 x3 i b)
  show concatenate S16x3 1 (List.ofFn fun n : Fin 3 => (⟨S16x1, shiftColumn x0 x1 x3 n⟩ : (s : Shape) × (s.Idx → EReal)))
    concatenates_S16x1_S16x1_S16x1_S16x3_d1 (ix2 b i) = _
  exact concatenate_ofFn_apply (t := S16x3) (s₁ := S16x1) (1 : Fin 2) (shiftColumn x0 x1 x3) _ rfl 1 rfl (ix2 b i) i
    (Nat.div_one _) (ix2 b (0 : Fin 1)) (Nat.mod_one _).symm fun a ha => by
      match a with
      | ⟨0, _⟩ => rfl
      | ⟨1, _⟩ => exact absurd rfl ha

/-- The nine columns of the rotations. -/
def rotationColumn : Fin 9 → FVec Ideal S16x1 .f32 := fun l => match l with
  | ⟨0, _⟩ => k0_pay12 x3
  | ⟨1, _⟩ => k0_pay13 x3
  | ⟨2, _⟩ => k0_pay14 x3
  | ⟨3, _⟩ => k0_pay15 x3
  | ⟨4, _⟩ => k0_pay16 x3
  | ⟨5, _⟩ => k0_pay17 x3
  | ⟨6, _⟩ => k0_pay18 x3
  | ⟨7, _⟩ => k0_pay19 (k0_pay11 x3)
  | ⟨8, _⟩ => k0_pay20 (k0_pay11 x3)

theorem rotationColumn_apply (l : Fin 9) (b : Fin 16) : rotationColumn x3 l (ix2 b (0 : Fin 1)) = x3 (ix2 b l) := by
  match l with
  | ⟨0, _⟩ => exact column0 x3 b
  | ⟨1, _⟩ => exact column1 x3 b
  | ⟨2, _⟩ => exact column2 x3 b
  | ⟨3, _⟩ => exact column3 x3 b
  | ⟨4, _⟩ => exact column4 x3 b
  | ⟨5, _⟩ => exact column5 x3 b
  | ⟨6, _⟩ => exact column6 x3 b
  | ⟨7, _⟩ => exact column7 x3 b
  | ⟨8, _⟩ => exact column8 x3 b

/-- The body's rotations are those it was given. -/
theorem rotation_apply (b : Fin 16) (l : Fin 9) : out0_5 (F := Ideal) x0 x1 x2 x3 (ix2 b l) = x3 (ix2 b l) := by
  rw [rotation_eq]
  refine Eq.trans ?_ (rotationColumn_apply x3 l b)
  show concatenate S16x9 1 (List.ofFn fun n : Fin 9 => (⟨S16x1, rotationColumn x3 n⟩ : (s : Shape) × (s.Idx → EReal)))
    concatenates_S16x1_S16x1_S16x1_S16x1_S16x1_S16x1_S16x1_S16x1_S16x1_S16x9_d1 (ix2 b l) = _
  exact concatenate_ofFn_apply (t := S16x9) (s₁ := S16x1) (1 : Fin 2) (rotationColumn x3) _ rfl 1 rfl (ix2 b l) l
    (Nat.div_one _) (ix2 b (0 : Fin 1)) (Nat.mod_one _).symm fun a ha => by
      match a with
      | ⟨0, _⟩ => rfl
      | ⟨1, _⟩ => exact absurd rfl ha

/-- One row's store reads as the placed models wherever it lies. -/
theorem row_value (i : Fin 3) (b : Fin 16) (n : Fin 1024) (y : S16x3x1024.Idx) (hy : y = ix3 b i n) (v : EReal)
    (hv : v = modelRow x0 x1 x2 x3 i (ix3 b (0 : Fin 1) n)) :
    v = placed (fun l => x0 (ix2 (y 0) l)) (fun j n => x1 (ix2 j n)) (fun j n => x2 (ix2 j n)) (fun l => x3 (ix2 (y 0) l)) (y 1) (y 2) := by
  subst hy
  exact hv.trans (modelRow_apply x0 x1 x2 x3 i b n)

/-- The body's placed models at an index. -/
theorem models_apply (b : Fin 16) (i : Fin 3) (n : Fin 1024) : out0_4 (F := Ideal) x0 x1 x2 x3 (ix3 b i n)
    = placed (fun l => x0 (ix2 b l)) (fun j n => x1 (ix2 j n)) (fun j n => x2 (ix2 j n)) (fun l => x3 (ix2 b l)) i n := by
  rw [models_eq]
  refine View.canon_apply_of_pieces (Val := Elt Ideal) (e := .f32) (fun y : S16x3x1024.Idx => show EReal from placed (fun l => x0 (ix2 (y 0) l)) (fun j n => x1 (ix2 j n))
    (fun j n => x2 (ix2 j n)) (fun l => x3 (ix2 (y 0) l)) (y 1) (y 2)) _ ?_ (ix3 b i n) (cover0_4 _ _ _ (ix3 b i n))
  have at_ : ∀ x : S16x1x1024.Idx, x = ix3 (x 0) (0 : Fin 1) (x 2) := fun x => by
    funext a
    match a with
    | ⟨0, _⟩ => rfl
    | ⟨1, _⟩ => exact Subsingleton.elim (α := Fin 1) _ _
    | ⟨2, _⟩ => rfl
  intro pc hpc
  rcases List.mem_cons.mp hpc with rfl | hpc
  · intro x
    refine row_value x0 x1 x2 x3 2 (x 0) (x 2) (r0_6.emb x) ?_ _ (congrArg (modelRow x0 x1 x2 x3 2) (at_ x))
    funext a; apply Fin.ext
    have h1 : (x 1).val < 1 := (x 1).isLt
    match a with
    | ⟨0, _⟩ => show 0 + 1 * (x 0).val = (x 0).val; omega
    | ⟨1, _⟩ => show 2 + 1 * (x 1).val = 2; omega
    | ⟨2, _⟩ => show 0 + 1 * (x 2).val = (x 2).val; omega
  rcases List.mem_cons.mp hpc with rfl | hpc
  · intro x
    refine row_value x0 x1 x2 x3 1 (x 0) (x 2) (r0_5.emb x) ?_ _ (congrArg (modelRow x0 x1 x2 x3 1) (at_ x))
    funext a; apply Fin.ext
    have h1 : (x 1).val < 1 := (x 1).isLt
    match a with
    | ⟨0, _⟩ => show 0 + 1 * (x 0).val = (x 0).val; omega
    | ⟨1, _⟩ => show 1 + 1 * (x 1).val = 1; omega
    | ⟨2, _⟩ => show 0 + 1 * (x 2).val = (x 2).val; omega
  rcases List.mem_cons.mp hpc with rfl | hpc
  · intro x
    refine row_value x0 x1 x2 x3 0 (x 0) (x 2) (r0_4.emb x) ?_ _ (congrArg (modelRow x0 x1 x2 x3 0) (at_ x))
    funext a; apply Fin.ext
    have h1 : (x 1).val < 1 := (x 1).isLt
    match a with
    | ⟨0, _⟩ => show 0 + 1 * (x 0).val = (x 0).val; omega
    | ⟨1, _⟩ => show 0 + 1 * (x 1).val = 0; omega
    | ⟨2, _⟩ => show 0 + 1 * (x 2).val = (x 2).val; omega
  nomatch hpc

end Cert.Proof.Register

end
-- ==== Proof.Registered.lean ====
/- The output arrays of the second call's body, over extended reals, as values of its arguments: its one grid point reads every
   array whole and writes every output whole. -/
module

public import proofs.«01_k».proof.Proof.Register

@[expose] public section

noncomputable section

namespace Cert.Proof.Registered

open Cert.RegisterIdeal Cert.RegisterIdeal.Gen Idealize.ShloMosaic Idealize.ShloMosaic.TcCoe Idealize.SL.Sem
  Idealize.ShloMosaic.ValueIdx Cert.Proof.Place
open Idealize.ShloMosaic.Pipeline (Dat)

variable (m : (ℓ : Loc nD τ sig) → Buf (Elt Ideal) ℓ) (c : Dev nD)

/-- The only grid point. -/
def point : Fin cfg0.N := ⟨0, by decide +kernel⟩

theorem index0 : ∀ t : Fin grid0.N, win0_0.index t = ![0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![0, 0] := by decide +kernel
theorem flush4 : ∀ t : Fin grid0.N, win0_4.flush t = true := by decide +kernel
theorem flush5 : ∀ t : Fin grid0.N, win0_5.flush t = true := by decide +kernel
theorem flush6 : ∀ t : Fin grid0.N, win0_6.flush t = true := by decide +kernel

/-! ## The arrays the grid reads that the host fills -/

theorem V_main_v0 : (V m c main_v0 : S3x16.Idx → EReal)
    = shapeCast S3x16 (m ((c : Thread nD τ).loc main_arg1) : S1x3x16.Idx → EReal) shapeCasts_S1x3x16_S3x16 := by
  show StableHlo.after hostOps0 _ _ = _
  after_results
  rfl

theorem V_main_v1 : (V m c main_v1 : S3x1024.Idx → EReal)
    = shapeCast S3x1024 (m ((c : Thread nD τ).loc main_arg2) : S1x3x1024.Idx → EReal) shapeCasts_S1x3x1024_S3x1024 := by
  show StableHlo.after hostOps0 _ _ = _
  after_results
  rfl

theorem V_main_v2 : (V m c main_v2 : S16x9.Idx → EReal)
    = shapeCast S16x9 (m ((c : Thread nD τ).loc main_arg3) : S16x3x3.Idx → EReal) shapeCasts_S16x3x3_S16x9 := by
  show StableHlo.after hostOps0 _ _ = _
  after_results
  rfl

/-! ## The blocks -/

theorem block0 (i : Fin 16) (l : Fin 48) : (iblk m c 0 point : S16x48.Idx → EReal) (ix2 i l)
    = (m ((c : Thread nD τ).loc main_arg0) : S16x48.Idx → EReal) (ix2 i l) := by
  refine Eq.trans ?_ (congrFun (V_main_arg0 m c) (ix2 i l : S16x48.Idx))
  show (V m c main_arg0 : S16x48.Idx → EReal) ((win0_0.rect point).emb _) = (V m c main_arg0 : S16x48.Idx → EReal) _
  refine congrArg (V m c main_arg0 : S16x48.Idx → EReal) ?_
  funext a
  apply Fin.ext
  rw [Pipeline.Window.rect_emb_val win0_0 point, index0]
  match a with
  | ⟨0, _⟩ => show 0 * 16 + i.val = i.val; omega
  | ⟨1, _⟩ => show 0 * 48 + l.val = l.val; omega

theorem block1 (i : Fin 3) (l : Fin 16) : (iblk m c 1 point : S3x16.Idx → EReal) (ix2 i l)
    = (m ((c : Thread nD τ).loc main_arg1) : S1x3x16.Idx → EReal) (ix3 (0 : Fin 1) i l) := by
  have ht : (V m c main_v0 : S3x16.Idx → EReal) (ix2 i l) = (m ((c : Thread nD τ).loc main_arg1) : S1x3x16.Idx → EReal) (ix3 (0 : Fin 1) i l) := by
    rw [V_main_v0]
    exact shapeCast_apply _ shapeCasts_S1x3x16_S3x16 (ix2 i l) (ix3 (0 : Fin 1) i l) (by
      rw [Shape.rowMajor_val_two, Shape.rowMajor_val_three]
      show (0 * 3 + i.val) * 16 + l.val = i.val * 16 + l.val
      omega)
  refine Eq.trans ?_ ht
  show (V m c main_v0 : S3x16.Idx → EReal) ((win0_1.rect point).emb _) = (V m c main_v0 : S3x16.Idx → EReal) _
  refine congrArg (V m c main_v0 : S3x16.Idx → EReal) ?_
  funext a
  apply Fin.ext
  rw [Pipeline.Window.rect_emb_val win0_1 point, index1]
  match a with
  | ⟨0, _⟩ => show 0 * 3 + i.val = i.val; omega
  | ⟨1, _⟩ => show 0 * 16 + l.val = l.val; omega

theorem block2 (i : Fin 3) (l : Fin 1024) : (iblk m c 2 point : S3x1024.Idx → EReal) (ix2 i l)
    = (m ((c : Thread nD τ).loc main_arg2) : S1x3x1024.Idx → EReal) (ix3 (0 : Fin 1) i l) := by
  have ht : (V m c main_v1 : S3x1024.Idx → EReal) (ix2 i l) = (m ((c : Thread nD τ).loc main_arg2) : S1x3x1024.Idx → EReal) (ix3 (0 : Fin 1) i l) := by
    rw [V_main_v1]
    exact shapeCast_apply _ shapeCasts_S1x3x1024_S3x1024 (ix2 i l) (ix3 (0 : Fin 1) i l) (by
      rw [Shape.rowMajor_val_two, Shape.rowMajor_val_three]
      show (0 * 3 + i.val) * 1024 + l.val = i.val * 1024 + l.val
      omega)
  refine Eq.trans ?_ ht
  show (V m c main_v1 : S3x1024.Idx → EReal) ((win0_2.rect point).emb _) = (V m c main_v1 : S3x1024.Idx → EReal) _
  refine congrArg (V m c main_v1 : S3x1024.Idx → EReal) ?_
  funext a
  apply Fin.ext
  rw [Pipeline.Window.rect_emb_val win0_2 point, index2]
  match a with
  | ⟨0, _⟩ => show 0 * 3 + i.val = i.val; omega
  | ⟨1, _⟩ => show 0 * 1024 + l.val = l.val; omega

theorem block3 (i : Fin 16) (l : Fin 9) : (iblk m c 3 point : S16x9.Idx → EReal) (ix2 i l)
    = shapeCast S16x9 (m ((c : Thread nD τ).loc main_arg3) : S16x3x3.Idx → EReal) shapeCasts_S16x3x3_S16x9 (ix2 i l) := by
  refine Eq.trans ?_ (congrFun (V_main_v2 m c) (ix2 i l : S16x9.Idx))
  show (V m c main_v2 : S16x9.Idx → EReal) ((win0_3.rect point).emb _) = (V m c main_v2 : S16x9.Idx → EReal) _
  refine congrArg (V m c main_v2 : S16x9.Idx → EReal) ?_
  funext a
  apply Fin.ext
  rw [Pipeline.Window.rect_emb_val win0_3 point, index3]
  match a with
  | ⟨0, _⟩ => show 0 * 16 + i.val = i.val; omega
  | ⟨1, _⟩ => show 0 * 9 + l.val = l.val; omega

/-! ## The output arrays -/

theorem shift_congr {D D' : Fin 48 → EReal} {K K' : Fin 3 → Fin 16 → EReal} {R R' : Fin 9 → EReal} (i : Fin 3)
    (hD : ∀ l, D l = D' l) (hK : ∀ j n, K j n = K' j n) (hR : ∀ l, R l = R' l) : shift D K R i = shift D' K' R' i := by
  obtain rfl : D = D' := funext hD
  obtain rfl : K = K' := funext fun j => funext (hK j)
  obtain rfl : R = R' := funext hR
  rfl

theorem placed_congr {D D' : Fin 48 → EReal} {K K' : Fin 3 → Fin 16 → EReal} {C C' : Fin 3 → Fin 1024 → EReal}
    {R R' : Fin 9 → EReal} (i : Fin 3) (n : Fin 1024) (hD : ∀ l, D l = D' l) (hK : ∀ j n, K j n = K' j n)
    (hC : ∀ j n, C j n = C' j n) (hR : ∀ l, R l = R' l) : placed D K C R i n = placed D' K' C' R' i n := by
  obtain rfl : D = D' := funext hD
  obtain rfl : K = K' := funext fun j => funext (hK j)
  obtain rfl : C = C' := funext fun j => funext (hC j)
  obtain rfl : R = R' := funext hR
  rfl

theorem place4 (b : Fin 16) (i : Fin 3) (n : Fin 1024) :
    (((cfg0.win 4).blk point).view.emb (ix3 b i n : S16x3x1024.Idx) : S16x3x1024.Idx) = ix3 b i n := by
  show (win0_4.rect point).emb _ = _
  funext a
  apply Fin.ext
  rw [Pipeline.Window.rect_emb_val win0_4 point, index4]
  match a with
  | ⟨0, _⟩ => show 0 * 16 + b.val = b.val; omega
  | ⟨1, _⟩ => show 0 * 3 + i.val = i.val; omega
  | ⟨2, _⟩ => show 0 * 1024 + n.val = n.val; omega

theorem only4 (t t' : Fin cfg0.N) (h : t ≠ t') :
    Disjoint ((cfg0.win 4).blk t).view.set ((cfg0.win 4).blk t').view.set :=
  absurd ((by decide +kernel : ∀ t t' : Fin grid0.N, t = t') t t') h

theorem flushed4 : (dats m 0 c).flushed 4 point = (cfg0.win 4).cut (grid0.coords point)
    (out0_4 (F := Ideal) (iblk m c 0 point) (iblk m c 1 point) (iblk m c 2 point) (iblk m c 3 point)) := by
  show (cfg0.win 4).cut (grid0.coords point) ((dats m 0 c).after 4 point) = _
  rw [after0_4]

/-- The array of placed models, at an index. -/
theorem result4_apply (b : Fin 16) (i : Fin 3) (n : Fin 1024) : ((dats m 0 c).arrAt 4 cfg0.N : S16x3x1024.Idx → EReal) (ix3 b i n)
    = placed (fun l => (m ((c : Thread nD τ).loc main_arg0) : S16x48.Idx → EReal) (ix2 b l))
        (fun j n => (m ((c : Thread nD τ).loc main_arg1) : S1x3x16.Idx → EReal) (ix3 (0 : Fin 1) j n))
        (fun j n => (m ((c : Thread nD τ).loc main_arg2) : S1x3x1024.Idx → EReal) (ix3 (0 : Fin 1) j n))
        (fun l => shapeCast S16x9 (m ((c : Thread nD τ).loc main_arg3) : S16x3x3.Idx → EReal) shapeCasts_S16x3x3_S16x9 (ix2 b l)) i n := by
  have e := congrFun ((dats m 0 c).read_blk_arrAt_eq_flushed 4 (fun t t' _ _ h => only4 t t' h) cfg0.N point point.isLt (flush4 _))
    (ix3 b i n : S16x3x1024.Idx)
  have e1 : ((dats m 0 c).arrAt 4 cfg0.N : S16x3x1024.Idx → EReal) (((cfg0.win 4).blk point).view.emb (ix3 b i n : S16x3x1024.Idx))
      = out0_4 (F := Ideal) (iblk m c 0 point) (iblk m c 1 point) (iblk m c 2 point) (iblk m c 3 point) (ix3 b i n) := by
    refine Eq.trans ?_ (e.trans ?_)
    · rfl
    · rw [flushed4]
      rfl
  rw [place4] at e1
  refine e1.trans ?_
  exact (Register.models_apply (iblk m c 0 point) (iblk m c 1 point) (iblk m c 2 point) (iblk m c 3 point) b i n).trans
    (placed_congr i n (fun l => block0 m c b l) (fun j n => block1 m c j n) (fun j n => block2 m c j n) (fun l => block3 m c b l))

theorem place5 (b : Fin 16) (i : Fin 9) :
    (((cfg0.win 5).blk point).view.emb (ix2 b i : S16x9.Idx) : S16x9.Idx) = ix2 b i := by
  show (win0_5.rect point).emb _ = _
  funext a
  apply Fin.ext
  rw [Pipeline.Window.rect_emb_val win0_5 point, index5]
  match a with
  | ⟨0, _⟩ => show 0 * 16 + b.val = b.val; omega
  | ⟨1, _⟩ => show 0 * 9 + i.val = i.val; omega

theorem only5 (t t' : Fin cfg0.N) (h : t ≠ t') :
    Disjoint ((cfg0.win 5).blk t).view.set ((cfg0.win 5).blk t').view.set :=
  absurd ((by decide +kernel : ∀ t t' : Fin grid0.N, t = t') t t') h

theorem flushed5 : (dats m 0 c).flushed 5 point = (cfg0.win 5).cut (grid0.coords point)
    (out0_5 (F := Ideal) (iblk m c 0 point) (iblk m c 1 point) (iblk m c 2 point) (iblk m c 3 point)) := by
  show (cfg0.win 5).cut (grid0.coords point) ((dats m 0 c).after 5 point) = _
  rw [after0_5]

/-- The array of rotations, at an index. -/
theorem result5_apply (b : Fin 16) (i : Fin 9) : ((dats m 0 c).arrAt 5 cfg0.N : S16x9.Idx → EReal) (ix2 b i)
    = shapeCast S16x9 (m ((c : Thread nD τ).loc main_arg3) : S16x3x3.Idx → EReal) shapeCasts_S16x3x3_S16x9 (ix2 b i) := by
  have e := congrFun ((dats m 0 c).read_blk_arrAt_eq_flushed 5 (fun t t' _ _ h => only5 t t' h) cfg0.N point point.isLt (flush5 _))
    (ix2 b i : S16x9.Idx)
  have e1 : ((dats m 0 c).arrAt 5 cfg0.N : S16x9.Idx → EReal) (((cfg0.win 5).blk point).view.emb (ix2 b i : S16x9.Idx))
      = out0_5 (F := Ideal) (iblk m c 0 point) (iblk m c 1 point) (iblk m c 2 point) (iblk m c 3 point) (ix2 b i) := by
    refine Eq.trans ?_ (e.trans ?_)
    · rfl
    · rw [flushed5]
      rfl
  rw [place5] at e1
  refine e1.trans ?_
  exact (Register.rotation_apply (iblk m c 0 point) (iblk m c 1 point) (iblk m c 2 point) (iblk m c 3 point) b i).trans
    (block3 m c b i)

theorem place6 (b : Fin 16) (i : Fin 3) :
    (((cfg0.win 6).blk point).view.emb (ix2 b i : S16x3.Idx) : S16x3.Idx) = ix2 b i := by
  show (win0_6.rect point).emb _ = _
  funext a
  apply Fin.ext
  rw [Pipeline.Window.rect_emb_val win0_6 point, index6]
  match a with
  | ⟨0, _⟩ => show 0 * 16 + b.val = b.val; omega
  | ⟨1, _⟩ => show 0 * 3 + i.val = i.val; omega

theorem only6 (t t' : Fin cfg0.N) (h : t ≠ t') :
    Disjoint ((cfg0.win 6).blk t).view.set ((cfg0.win 6).blk t').view.set :=
  absurd ((by decide +kernel : ∀ t t' : Fin grid0.N, t = t') t t') h

theorem flushed6 : (dats m 0 c).flushed 6 point = (cfg0.win 6).cut (grid0.coords point)
    (out0_6 (F := Ideal) (iblk m c 0 point) (iblk m c 1 point) (iblk m c 2 point) (iblk m c 3 point)) := by
  show (cfg0.win 6).cut (grid0.coords point) ((dats m 0 c).after 6 point) = _
  rw [after0_6]

/-- The array of shifts, at an index. -/
theorem result6_apply (b : Fin 16) (i : Fin 3) : ((dats m 0 c).arrAt 6 cfg0.N : S16x3.Idx → EReal) (ix2 b i)
    = shift (fun l => (m ((c : Thread nD τ).loc main_arg0) : S16x48.Idx → EReal) (ix2 b l))
        (fun j n => (m ((c : Thread nD τ).loc main_arg1) : S1x3x16.Idx → EReal) (ix3 (0 : Fin 1) j n))
        (fun l => shapeCast S16x9 (m ((c : Thread nD τ).loc main_arg3) : S16x3x3.Idx → EReal) shapeCasts_S16x3x3_S16x9 (ix2 b l)) i := by
  have e := congrFun ((dats m 0 c).read_blk_arrAt_eq_flushed 6 (fun t t' _ _ h => only6 t t' h) cfg0.N point point.isLt (flush6 _))
    (ix2 b i : S16x3.Idx)
  have e1 : ((dats m 0 c).arrAt 6 cfg0.N : S16x3.Idx → EReal) (((cfg0.win 6).blk point).view.emb (ix2 b i : S16x3.Idx))
      = out0_6 (F := Ideal) (iblk m c 0 point) (iblk m c 1 point) (iblk m c 2 point) (iblk m c 3 point) (ix2 b i) := by
    refine Eq.trans ?_ (e.trans ?_)
    · rfl
    · rw [flushed6]
      rfl
  rw [place6] at e1
  refine e1.trans ?_
  exact (Register.shifts_apply (iblk m c 0 point) (iblk m c 1 point) (iblk m c 2 point) (iblk m c 3 point) b i).trans
    (shift_congr i (fun l => block0 m c b l) (fun j n => block1 m c j n) (fun l => block3 m c b l))

/-- The body's run: every output array as the grid leaves it, every argument as it was. -/
theorem run (ρ : Dev nD → PrngReg) :
    θ_run defs (onTc (τ := τ) (main (F := Ideal))) ⟨m, fun _ => 0, ρ⟩ fun r => ∀ c : Dev nD,
      r.2.mem ((c.tc : Thread nD τ).loc main_v3_0) = (dats m 0 c).arrAt 4 cfg0.N
      ∧ r.2.mem ((c.tc : Thread nD τ).loc main_v3_1) = (dats m 0 c).arrAt 5 cfg0.N
      ∧ r.2.mem ((c.tc : Thread nD τ).loc main_v3_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.Registered

end
-- ==== Proof.lean ====
/- The claims. About the detector call: both programs run and leave their arguments as they were, the kernel over extended
   reals is the kernel with one constant named, and at finite points the kernel and the reference compute equal keypoints.
   About the placing of the models, for given keypoints and rotations: its programs run and leave their arguments as they were,
   and kernel and reference compute equal models and shifts. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Register
public import proofs.«01_k».proof.Proof.Gen.Register.Frame
public import proofs.«01_k».proof.Proof.Gen.RegisterIdeal
public import proofs.«01_k».proof.Proof.Gen.RegisterIdeal.Frame
public import proofs.«01_k».proof.Proof.Gen.PlaceIdeal
public import proofs.«01_k».proof.Proof.Gen.PlaceIdeal.Run
public import proofs.«01_k».proof.Proof.Array
public import proofs.«01_k».proof.Proof.Reference
public import proofs.«01_k».proof.Proof.Registered
public import proofs.«01_k».proof.Proof.Place
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Idealize.ShloMosaic.ValueIdx

/-- The precondition's shape fact. -/
theorem finite_facts : Cert.Pre_finite_points.Facts := ⟨by decide⟩

/-- Where the precondition holds of the points, each coordinate is a real. -/
theorem real_of_pre [Cert.Pre_finite_points.Facts] (p : FVec Ideal Cert.Pre_finite_points.S16x3x1024 .f32)
    (w1 : FVec Ideal Cert.Pre_finite_points.S6x32 .f32) (w2 : FVec Ideal Cert.Pre_finite_points.S32x64 .f32)
    (w3 : FVec Ideal Cert.Pre_finite_points.S64x128 .f32) (w4 : FVec Ideal Cert.Pre_finite_points.S128x48 .f32)
    (b4 : FVec Ideal Cert.Pre_finite_points.S48 .f32)
    (h : Cert.Pre_finite_points.fn (F := Ideal) p w1 w2 w3 w4 b4 = fun _ => 1#1) (i : Cert.Pre_finite_points.S16x3x1024.Idx) :
    ∃ x : ℝ, (p i : EReal) = (x : EReal) := by
  have e := congrFun h i
  have hb : (FloatOps.ofBits (F := Ideal) (φ := .f32) 0x7F800000#32 : EReal) = ⊤ := by
    simp [Ideal.ofBits_def, Ideal.ofBits, Ideal.ieee]
  have hlt : max (p i : EReal) (-(p i : EReal)) < (⊤ : EReal) := by
    rw [← hb]
    have e' : BitVec.ofBool (decide (max (p i : EReal) (-(p i : EReal))
        < (FloatOps.ofBits (F := Ideal) (φ := .f32) 0x7F800000#32 : EReal))) = 1#1 := e
    by_contra hn
    rw [decide_eq_false hn] at e'
    exact absurd e' (by decide)
  refine ⟨(p i : EReal).toReal, (EReal.coe_toReal ?_ ?_).symm⟩
  · intro ht
    rw [ht] at hlt
    simp at hlt
  · intro ht
    rw [ht] at hlt
    simp at hlt

/-- The reference runs, its arguments end as they were, and every semaphore counter is zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run (Cert.ReferenceIdeal.defs (F := Ideal)) _ _).mono (fun r h => And.intro (fun c => (h c).2)
      (Idealize.ShloMosaic.sem_eq_zero_of_no_sems (by decide) r.2))
    (Cert.ReferenceIdeal.Value.run (F := Ideal) m ρ)

/-- The constant the extraction rounds write over a chosen distance is named `big`, and the table gives it the value `⊤`. -/
theorem preserves : Cert.preserves_Kernel_KernelIdeal :=
  IdealRules.named_const.statement Cert.KernelIdeal.κ "big" .f32 0x7F61B1E6#32 ⊤ rfl

/-- At finite points the kernel and the reference end with equal keypoints: each is `Spec.keypoints` of the arguments. -/
theorem algebraic [hPre_finite_points : Cert.Pre_finite_points.Facts] : Cert.algebraic_KernelIdeal_ReferenceIdeal_pre_finite_points := by
  intro m ρ m' ρ' hpre hagree
  refine ⟨_, Cert.KernelIdeal.Value.run_blocks (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨a0, a1, a2, a3, a4, a5⟩ := hagree c
  have hreal := real_of_pre _ _ _ _ _ _ (hpre c)
  choose x hx using hreal
  funext y
  obtain ⟨b, z, j, rfl⟩ : ∃ (b : Fin 16) (z : Fin 1) (j : Fin 48), y = ix3 b z j := ⟨_, _, _, eq_ix3 y⟩
  obtain rfl : z = 0 := Subsingleton.elim _ _
  refine (Cert.Proof.Reference.result_apply m' c b j).trans ?_
  rw [a0, a1, a2, a3, a4, a5]
  exact (Cert.Proof.Array.result_apply m c (fun b i k => x (ix3 b k i)) (fun b i k => hx (ix3 b k i)) b j).symm

/-- The reference of the placing runs, its arguments end as they were, and every semaphore counter is zero. -/
theorem frame_place (m : (ℓ : Loc Cert.PlaceIdeal.nD Cert.PlaceIdeal.τ Cert.PlaceIdeal.sig) → Buf (Elt Ideal) ℓ)
    (ρ : Dev Cert.PlaceIdeal.nD → PrngReg) :
    θ_run (Cert.PlaceIdeal.defs (F := Ideal)) (onTc (τ := Cert.PlaceIdeal.τ) (Cert.PlaceIdeal.main (F := Ideal)))
      ⟨m, fun _ => 0, ρ⟩ (fun r => (∀ c : Dev Cert.PlaceIdeal.nD,
        r.2.mem ((c.tc : Thread Cert.PlaceIdeal.nD Cert.PlaceIdeal.τ).loc Cert.PlaceIdeal.main_arg0) = m ((c.tc : Thread Cert.PlaceIdeal.nD Cert.PlaceIdeal.τ).loc Cert.PlaceIdeal.main_arg0)
        ∧ r.2.mem ((c.tc : Thread Cert.PlaceIdeal.nD Cert.PlaceIdeal.τ).loc Cert.PlaceIdeal.main_arg1) = m ((c.tc : Thread Cert.PlaceIdeal.nD Cert.PlaceIdeal.τ).loc Cert.PlaceIdeal.main_arg1)
        ∧ r.2.mem ((c.tc : Thread Cert.PlaceIdeal.nD Cert.PlaceIdeal.τ).loc Cert.PlaceIdeal.main_arg2) = m ((c.tc : Thread Cert.PlaceIdeal.nD Cert.PlaceIdeal.τ).loc Cert.PlaceIdeal.main_arg2)
        ∧ r.2.mem ((c.tc : Thread Cert.PlaceIdeal.nD Cert.PlaceIdeal.τ).loc Cert.PlaceIdeal.main_arg3) = m ((c.tc : Thread Cert.PlaceIdeal.nD Cert.PlaceIdeal.τ).loc Cert.PlaceIdeal.main_arg3))
        ∧ r.2.sem = fun _ => 0) :=
  (θ_run (Cert.PlaceIdeal.defs (F := Ideal)) _ _).mono (fun r h => And.intro (fun c => (h c).2.2.2)
      (Idealize.ShloMosaic.sem_eq_zero_of_no_sems (by decide) r.2))
    (Cert.PlaceIdeal.Value.run (F := Ideal) m ρ)

/-- For equal keypoints and rotations the kernel and the reference end with equal placed models, rotations and shifts. -/
theorem algebraic_place : Cert.algebraic_RegisterIdeal_PlaceIdeal := by
  intro m ρ m' ρ' _ hagree
  refine ⟨_, _, _, Cert.Proof.Registered.run m ρ, ?_⟩
  refine (θ_run (Cert.PlaceIdeal.defs (F := Ideal)) _ _).mono
    (fun _ h c => ⟨(h c).1.trans ?_, (h c).2.1.trans ?_, (h c).2.2.1.trans ?_, (h c).2.2.2⟩)
    (Cert.PlaceIdeal.Value.run (F := Ideal) m' ρ')
  · obtain ⟨a0, a1, a2, a3⟩ := hagree c
    rw [a0, a1, a2, a3]
    funext y
    obtain ⟨b, i, n, rfl⟩ : ∃ (b : Fin 16) (i : Fin 3) (n : Fin 1024), y = ix3 b i n := ⟨_, _, _, eq_ix3 y⟩
    exact (Cert.Proof.Place.models_apply _ _ _ _ b i n).trans (Cert.Proof.Registered.result4_apply m c b i n).symm
  · obtain ⟨a0, a1, a2, a3⟩ := hagree c
    rw [a3]
    funext y
    obtain ⟨b, l, rfl⟩ : ∃ (b : Fin 16) (l : Fin 9), y = ix2 b l := ⟨_, _, eq_ix2 y⟩
    exact (Cert.Proof.Registered.result5_apply m c b l).symm
  · obtain ⟨a0, a1, a2, a3⟩ := hagree c
    rw [a0, a1, a3]
    funext y
    obtain ⟨b, i, rfl⟩ : ∃ (b : Fin 16) (i : Fin 3), y = ix2 b i := ⟨_, _, eq_ix2 y⟩
    exact (Cert.Proof.Place.flatShifts_apply _ _ _ b i).trans (Cert.Proof.Registered.result6_apply m c b i).symm

theorem claim : Cert.Claim :=
  ⟨Cert.Kernel.Gen.facts, Cert.KernelIdeal.Gen.facts, Cert.ReferenceIdeal.Gen.facts, Cert.Register.Gen.facts,
    Cert.RegisterIdeal.Gen.facts, Cert.PlaceIdeal.Gen.facts, finite_facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    fun m ρ _ => Cert.Register.Gen.frame m ρ, fun m ρ _ => Cert.RegisterIdeal.Gen.frame m ρ, fun m ρ _ => frame_place m ρ,
    preserves, algebraic (hPre_finite_points := finite_facts), trivial, algebraic_place⟩

end Cert.Proof

end
